-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S2x256x1024 : Shape := ⟨3, ![2, 256, 1024]⟩
abbrev S22 : Shape := ⟨1, ![22]⟩
abbrev S21 : Shape := ⟨1, ![21]⟩
abbrev S4 : Shape := ⟨1, ![4]⟩
abbrev S2 : Shape := ⟨1, ![2]⟩
abbrev S_ : Shape := ⟨0, ![]⟩
abbrev S1 : Shape := ⟨1, ![1]⟩
abbrev S256x1024 : Shape := ⟨2, ![256, 1024]⟩
abbrev S1x256x1024 : Shape := ⟨3, ![1, 256, 1024]⟩

abbrev nBuf : Space → Nat
  | .hbm => 3
  | .vmem => 2
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .local _ .vmem, ⟨0, _⟩ => ⟨S2x256x1024, .f32⟩
  | .local _ .vmem, ⟨1, _⟩ => ⟨S2x256x1024, .f32⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v41 : BitVec 32 := Scalar.muli v2 c8_i32_23
  let v42 : BitVec 32 := Scalar.addi c0_i32_24 v41
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_25 : BitVec 32 := 4#32
  let v43 : BitVec 32 := Scalar.muli v22 c4_i32_25
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v45 : BitVec 32 := Scalar.muli v8 c1_i32_26
  let v46 : BitVec 32 := Scalar.addi v44 v45
  v46.toNat
def k0_dev2 (d0 : Dev nD) : Nat :=
  let c0_i32_29 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_28 : BitVec 32 := 8#32
  let v47 : BitVec 32 := Scalar.muli v23 c8_i32_28
  let v48 : BitVec 32 := Scalar.addi c0_i32_29 v47
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v49 : BitVec 32 := Scalar.muli v5 c4_i32_30
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 32 := Scalar.muli v8 c1_i32_31
  let v52 : BitVec 32 := Scalar.addi v50 v51
  v52.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v53 : BitVec 32 := Scalar.muli v2 c8_i32_33
  let v54 : BitVec 32 := Scalar.addi c0_i32_34 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v55 : BitVec 32 := Scalar.muli v5 c4_i32_35
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_36 : BitVec 32 := 1#32
  let v57 : BitVec 32 := Scalar.muli v21 c1_i32_36
  let v58 : BitVec 32 := Scalar.addi v56 v57
  v58.toNat
def k0_off1 (d0 : Dev nD) (c0_i32_37 : BitVec 32) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c4096_i32 : BitVec 32 := 4096#32
  let v26 : BitVec 32 := Scalar.muli v25 c4096_i32
  let v59 : BitVec 32 := Scalar.addi v26 c0_i32_37
  let c0_i32_44 : BitVec 32 := 0#32
  ![v59.toNat, 0]
def k0_dev4 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v60 : BitVec 32 := Scalar.muli v2 c8_i32_40
  let v61 : BitVec 32 := Scalar.addi c0_i32_41 v60
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_42 : BitVec 32 := 4#32
  let v62 : BitVec 32 := Scalar.muli v22 c4_i32_42
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v64 : BitVec 32 := Scalar.muli v8 c1_i32_43
  let v65 : BitVec 32 := Scalar.addi v63 v64
  v65.toNat
def k0_dev5 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v73 : BitVec 32 := Scalar.muli v2 c8_i32_48
  let v74 : BitVec 32 := Scalar.addi c0_i32_49 v73
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_50 : BitVec 32 := 4#32
  let v75 : BitVec 32 := Scalar.muli v22 c4_i32_50
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v77 : BitVec 32 := Scalar.muli v8 c1_i32_51
  let v78 : BitVec 32 := Scalar.addi v76 v77
  v78.toNat
def k0_dev6 (d0 : Dev nD) : Nat :=
  let c0_i32_57 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_56 : BitVec 32 := 8#32
  let v86 : BitVec 32 := Scalar.muli v2 c8_i32_56
  let v87 : BitVec 32 := Scalar.addi c0_i32_57 v86
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_58 : BitVec 32 := 4#32
  let v88 : BitVec 32 := Scalar.muli v22 c4_i32_58
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v90 : BitVec 32 := Scalar.muli v8 c1_i32_59
  let v91 : BitVec 32 := Scalar.addi v89 v90
  v91.toNat
def k0_dev7 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v99 : BitVec 32 := Scalar.muli v2 c8_i32_64
  let v100 : BitVec 32 := Scalar.addi c0_i32_65 v99
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_66 : BitVec 32 := 4#32
  let v101 : BitVec 32 := Scalar.muli v22 c4_i32_66
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v103 : BitVec 32 := Scalar.muli v8 c1_i32_67
  let v104 : BitVec 32 := Scalar.addi v102 v103
  v104.toNat
def k0_dev8 (d0 : Dev nD) : Nat :=
  let c0_i32_73 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_72 : BitVec 32 := 8#32
  let v112 : BitVec 32 := Scalar.muli v2 c8_i32_72
  let v113 : BitVec 32 := Scalar.addi c0_i32_73 v112
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_74 : BitVec 32 := 4#32
  let v114 : BitVec 32 := Scalar.muli v22 c4_i32_74
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v116 : BitVec 32 := Scalar.muli v8 c1_i32_75
  let v117 : BitVec 32 := Scalar.addi v115 v116
  v117.toNat
def k0_dev9 (d0 : Dev nD) : Nat :=
  let c0_i32_80 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_79 : BitVec 32 := 8#32
  let v125 : BitVec 32 := Scalar.muli v2 c8_i32_79
  let v126 : BitVec 32 := Scalar.addi c0_i32_80 v125
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_81 : BitVec 32 := 4#32
  let v127 : BitVec 32 := Scalar.muli v22 c4_i32_81
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v129 : BitVec 32 := Scalar.muli v8 c1_i32_82
  let v130 : BitVec 32 := Scalar.addi v128 v129
  v130.toNat
def k0_dev10 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v138 : BitVec 32 := Scalar.muli v2 c8_i32_86
  let v139 : BitVec 32 := Scalar.addi c0_i32_87 v138
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_88 : BitVec 32 := 4#32
  let v140 : BitVec 32 := Scalar.muli v22 c4_i32_88
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v142 : BitVec 32 := Scalar.muli v8 c1_i32_89
  let v143 : BitVec 32 := Scalar.addi v141 v142
  v143.toNat
def k0_dev11 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v151 : BitVec 32 := Scalar.muli v2 c8_i32_93
  let v152 : BitVec 32 := Scalar.addi c0_i32_94 v151
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_95 : BitVec 32 := 4#32
  let v153 : BitVec 32 := Scalar.muli v22 c4_i32_95
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v155 : BitVec 32 := Scalar.muli v8 c1_i32_96
  let v156 : BitVec 32 := Scalar.addi v154 v155
  v156.toNat
def k0_dev12 (d0 : Dev nD) : Nat :=
  let c0_i32_102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_101 : BitVec 32 := 8#32
  let v164 : BitVec 32 := Scalar.muli v2 c8_i32_101
  let v165 : BitVec 32 := Scalar.addi c0_i32_102 v164
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_103 : BitVec 32 := 4#32
  let v166 : BitVec 32 := Scalar.muli v22 c4_i32_103
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v168 : BitVec 32 := Scalar.muli v8 c1_i32_104
  let v169 : BitVec 32 := Scalar.addi v167 v168
  v169.toNat
def k0_dev13 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v177 : BitVec 32 := Scalar.muli v2 c8_i32_108
  let v178 : BitVec 32 := Scalar.addi c0_i32_109 v177
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_110 : BitVec 32 := 4#32
  let v179 : BitVec 32 := Scalar.muli v22 c4_i32_110
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v181 : BitVec 32 := Scalar.muli v8 c1_i32_111
  let v182 : BitVec 32 := Scalar.addi v180 v181
  v182.toNat
def k0_dev14 (d0 : Dev nD) : Nat :=
  let c0_i32_116 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_115 : BitVec 32 := 8#32
  let v190 : BitVec 32 := Scalar.muli v2 c8_i32_115
  let v191 : BitVec 32 := Scalar.addi c0_i32_116 v190
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_117 : BitVec 32 := 4#32
  let v192 : BitVec 32 := Scalar.muli v22 c4_i32_117
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v194 : BitVec 32 := Scalar.muli v8 c1_i32_118
  let v195 : BitVec 32 := Scalar.addi v193 v194
  v195.toNat
def k0_dev15 (d0 : Dev nD) : Nat :=
  let c0_i32_123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_122 : BitVec 32 := 8#32
  let v203 : BitVec 32 := Scalar.muli v2 c8_i32_122
  let v204 : BitVec 32 := Scalar.addi c0_i32_123 v203
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_124 : BitVec 32 := 4#32
  let v205 : BitVec 32 := Scalar.muli v22 c4_i32_124
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v207 : BitVec 32 := Scalar.muli v8 c1_i32_125
  let v208 : BitVec 32 := Scalar.addi v206 v207
  v208.toNat
def k0_dev16 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v216 : BitVec 32 := Scalar.muli v2 c8_i32_129
  let v217 : BitVec 32 := Scalar.addi c0_i32_130 v216
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_131 : BitVec 32 := 4#32
  let v218 : BitVec 32 := Scalar.muli v22 c4_i32_131
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v220 : BitVec 32 := Scalar.muli v8 c1_i32_132
  let v221 : BitVec 32 := Scalar.addi v219 v220
  v221.toNat
def k0_dev17 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v229 : BitVec 32 := Scalar.muli v2 c8_i32_136
  let v230 : BitVec 32 := Scalar.addi c0_i32_137 v229
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_138 : BitVec 32 := 4#32
  let v231 : BitVec 32 := Scalar.muli v22 c4_i32_138
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v233 : BitVec 32 := Scalar.muli v8 c1_i32_139
  let v234 : BitVec 32 := Scalar.addi v232 v233
  v234.toNat
def k0_dev18 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v242 : BitVec 32 := Scalar.muli v2 c8_i32_143
  let v243 : BitVec 32 := Scalar.addi c0_i32_144 v242
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_145 : BitVec 32 := 4#32
  let v244 : BitVec 32 := Scalar.muli v22 c4_i32_145
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v246 : BitVec 32 := Scalar.muli v8 c1_i32_146
  let v247 : BitVec 32 := Scalar.addi v245 v246
  v247.toNat
def k0_dev19 (d0 : Dev nD) : Nat :=
  let c0_i32_151 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_150 : BitVec 32 := 8#32
  let v255 : BitVec 32 := Scalar.muli v2 c8_i32_150
  let v256 : BitVec 32 := Scalar.addi c0_i32_151 v255
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_152 : BitVec 32 := 4#32
  let v257 : BitVec 32 := Scalar.muli v22 c4_i32_152
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v259 : BitVec 32 := Scalar.muli v8 c1_i32_153
  let v260 : BitVec 32 := Scalar.addi v258 v259
  v260.toNat
def k0_off2 (d0 : Dev nD) (c0_i32_156 : BitVec 32) : Fin 2 → Nat :=
  let c2_i32_19 : BitVec 32 := 2#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let v36 : BitVec 32 := Scalar.muli c2_i32_19 v35
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_20 v18
  let v38 : BitVec 32 := Scalar.addi v36 v37
  let c4096_i32_21 : BitVec 32 := 4096#32
  let v39 : BitVec 32 := Scalar.muli v38 c4096_i32_21
  let v267 : BitVec 32 := Scalar.addi v39 c0_i32_156
  let c0_i32_162 : BitVec 32 := 0#32
  ![v267.toNat, 0]
def k0_dev20 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v268 : BitVec 32 := Scalar.muli v2 c8_i32_158
  let v269 : BitVec 32 := Scalar.addi c0_i32_159 v268
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_160 : BitVec 32 := 4#32
  let v270 : BitVec 32 := Scalar.muli v22 c4_i32_160
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v272 : BitVec 32 := Scalar.muli v8 c1_i32_161
  let v273 : BitVec 32 := Scalar.addi v271 v272
  v273.toNat
def k0_dev21 (d0 : Dev nD) : Nat :=
  let c0_i32_167 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_166 : BitVec 32 := 8#32
  let v281 : BitVec 32 := Scalar.muli v2 c8_i32_166
  let v282 : BitVec 32 := Scalar.addi c0_i32_167 v281
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_168 : BitVec 32 := 4#32
  let v283 : BitVec 32 := Scalar.muli v22 c4_i32_168
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v285 : BitVec 32 := Scalar.muli v8 c1_i32_169
  let v286 : BitVec 32 := Scalar.addi v284 v285
  v286.toNat
def k0_dev22 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v294 : BitVec 32 := Scalar.muli v2 c8_i32_174
  let v295 : BitVec 32 := Scalar.addi c0_i32_175 v294
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_176 : BitVec 32 := 4#32
  let v296 : BitVec 32 := Scalar.muli v22 c4_i32_176
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v298 : BitVec 32 := Scalar.muli v8 c1_i32_177
  let v299 : BitVec 32 := Scalar.addi v297 v298
  v299.toNat
def k0_dev23 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v307 : BitVec 32 := Scalar.muli v2 c8_i32_182
  let v308 : BitVec 32 := Scalar.addi c0_i32_183 v307
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_184 : BitVec 32 := 4#32
  let v309 : BitVec 32 := Scalar.muli v22 c4_i32_184
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v311 : BitVec 32 := Scalar.muli v8 c1_i32_185
  let v312 : BitVec 32 := Scalar.addi v310 v311
  v312.toNat
def k0_dev24 (d0 : Dev nD) : Nat :=
  let c0_i32_191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_190 : BitVec 32 := 8#32
  let v320 : BitVec 32 := Scalar.muli v2 c8_i32_190
  let v321 : BitVec 32 := Scalar.addi c0_i32_191 v320
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_192 : BitVec 32 := 4#32
  let v322 : BitVec 32 := Scalar.muli v22 c4_i32_192
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v324 : BitVec 32 := Scalar.muli v8 c1_i32_193
  let v325 : BitVec 32 := Scalar.addi v323 v324
  v325.toNat
def k0_dev25 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v333 : BitVec 32 := Scalar.muli v2 c8_i32_198
  let v334 : BitVec 32 := Scalar.addi c0_i32_199 v333
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_200 : BitVec 32 := 4#32
  let v335 : BitVec 32 := Scalar.muli v22 c4_i32_200
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v337 : BitVec 32 := Scalar.muli v8 c1_i32_201
  let v338 : BitVec 32 := Scalar.addi v336 v337
  v338.toNat
def k0_dev26 (d0 : Dev nD) : Nat :=
  let c0_i32_216 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_215 : BitVec 32 := 8#32
  let v356 : BitVec 32 := Scalar.muli v23 c8_i32_215
  let v357 : BitVec 32 := Scalar.addi c0_i32_216 v356
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_217 : BitVec 32 := 4#32
  let v358 : BitVec 32 := Scalar.muli v5 c4_i32_217
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v360 : BitVec 32 := Scalar.muli v8 c1_i32_218
  let v361 : BitVec 32 := Scalar.addi v359 v360
  v361.toNat
def k0_dev27 (d0 : Dev nD) : Nat :=
  let c0_i32_225 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_224 : BitVec 32 := 8#32
  let v369 : BitVec 32 := Scalar.muli v2 c8_i32_224
  let v370 : BitVec 32 := Scalar.addi c0_i32_225 v369
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_226 : BitVec 32 := 4#32
  let v371 : BitVec 32 := Scalar.muli v5 c4_i32_226
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_227 : BitVec 32 := 1#32
  let v373 : BitVec 32 := Scalar.muli v21 c1_i32_227
  let v374 : BitVec 32 := Scalar.addi v372 v373
  v374.toNat
def k0_dev28 (d0 : Dev nD) : Nat :=
  let c0_i32_253 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_252 : BitVec 32 := 8#32
  let v403 : BitVec 32 := Scalar.muli v23 c8_i32_252
  let v404 : BitVec 32 := Scalar.addi c0_i32_253 v403
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_254 : BitVec 32 := 4#32
  let v405 : BitVec 32 := Scalar.muli v5 c4_i32_254
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v407 : BitVec 32 := Scalar.muli v8 c1_i32_255
  let v408 : BitVec 32 := Scalar.addi v406 v407
  v408.toNat
def k0_dev29 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v416 : BitVec 32 := Scalar.muli v2 c8_i32_261
  let v417 : BitVec 32 := Scalar.addi c0_i32_262 v416
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_263 : BitVec 32 := 4#32
  let v418 : BitVec 32 := Scalar.muli v5 c4_i32_263
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_264 : BitVec 32 := 1#32
  let v420 : BitVec 32 := Scalar.muli v21 c1_i32_264
  let v421 : BitVec 32 := Scalar.addi v419 v420
  v421.toNat
def k0_dev30 (d0 : Dev nD) : Nat :=
  let c0_i32_313 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_312 : BitVec 32 := 8#32
  let v473 : BitVec 32 := Scalar.muli v23 c8_i32_312
  let v474 : BitVec 32 := Scalar.addi c0_i32_313 v473
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v475 : BitVec 32 := Scalar.muli v5 c4_i32_314
  let v476 : BitVec 32 := Scalar.addi v474 v475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v477 : BitVec 32 := Scalar.muli v8 c1_i32_315
  let v478 : BitVec 32 := Scalar.addi v476 v477
  v478.toNat
def k0_dev31 (d0 : Dev nD) : Nat :=
  let c0_i32_322 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_321 : BitVec 32 := 8#32
  let v486 : BitVec 32 := Scalar.muli v2 c8_i32_321
  let v487 : BitVec 32 := Scalar.addi c0_i32_322 v486
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_323 : BitVec 32 := 4#32
  let v488 : BitVec 32 := Scalar.muli v5 c4_i32_323
  let v489 : BitVec 32 := Scalar.addi v487 v488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_324 : BitVec 32 := 1#32
  let v490 : BitVec 32 := Scalar.muli v21 c1_i32_324
  let v491 : BitVec 32 := Scalar.addi v489 v490
  v491.toNat
def k0_dev32 (d0 : Dev nD) : Nat :=
  let c0_i32_378 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_377 : BitVec 32 := 8#32
  let v548 : BitVec 32 := Scalar.muli v23 c8_i32_377
  let v549 : BitVec 32 := Scalar.addi c0_i32_378 v548
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_379 : BitVec 32 := 4#32
  let v550 : BitVec 32 := Scalar.muli v5 c4_i32_379
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v552 : BitVec 32 := Scalar.muli v8 c1_i32_380
  let v553 : BitVec 32 := Scalar.addi v551 v552
  v553.toNat
def k0_dev33 (d0 : Dev nD) : Nat :=
  let c0_i32_387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_386 : BitVec 32 := 8#32
  let v561 : BitVec 32 := Scalar.muli v2 c8_i32_386
  let v562 : BitVec 32 := Scalar.addi c0_i32_387 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_388 : BitVec 32 := 4#32
  let v563 : BitVec 32 := Scalar.muli v5 c4_i32_388
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_389 : BitVec 32 := 1#32
  let v565 : BitVec 32 := Scalar.muli v21 c1_i32_389
  let v566 : BitVec 32 := Scalar.addi v564 v565
  v566.toNat
def k0_dev34 (d0 : Dev nD) : Nat :=
  let c0_i32_444 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_443 : BitVec 32 := 8#32
  let v623 : BitVec 32 := Scalar.muli v23 c8_i32_443
  let v624 : BitVec 32 := Scalar.addi c0_i32_444 v623
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_445 : BitVec 32 := 4#32
  let v625 : BitVec 32 := Scalar.muli v5 c4_i32_445
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_446 : BitVec 32 := 1#32
  let v627 : BitVec 32 := Scalar.muli v8 c1_i32_446
  let v628 : BitVec 32 := Scalar.addi v626 v627
  v628.toNat
def k0_dev35 (d0 : Dev nD) : Nat :=
  let c0_i32_453 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_452 : BitVec 32 := 8#32
  let v636 : BitVec 32 := Scalar.muli v2 c8_i32_452
  let v637 : BitVec 32 := Scalar.addi c0_i32_453 v636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_454 : BitVec 32 := 4#32
  let v638 : BitVec 32 := Scalar.muli v5 c4_i32_454
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_455 : BitVec 32 := 1#32
  let v640 : BitVec 32 := Scalar.muli v21 c1_i32_455
  let v641 : BitVec 32 := Scalar.addi v639 v640
  v641.toNat
def k0_dev36 (d0 : Dev nD) : Nat :=
  let c0_i32_510 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_509 : BitVec 32 := 8#32
  let v698 : BitVec 32 := Scalar.muli v23 c8_i32_509
  let v699 : BitVec 32 := Scalar.addi c0_i32_510 v698
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_511 : BitVec 32 := 4#32
  let v700 : BitVec 32 := Scalar.muli v5 c4_i32_511
  let v701 : BitVec 32 := Scalar.addi v699 v700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_512 : BitVec 32 := 1#32
  let v702 : BitVec 32 := Scalar.muli v8 c1_i32_512
  let v703 : BitVec 32 := Scalar.addi v701 v702
  v703.toNat
def k0_dev37 (d0 : Dev nD) : Nat :=
  let c0_i32_519 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_518 : BitVec 32 := 8#32
  let v711 : BitVec 32 := Scalar.muli v2 c8_i32_518
  let v712 : BitVec 32 := Scalar.addi c0_i32_519 v711
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_520 : BitVec 32 := 4#32
  let v713 : BitVec 32 := Scalar.muli v5 c4_i32_520
  let v714 : BitVec 32 := Scalar.addi v712 v713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_521 : BitVec 32 := 1#32
  let v715 : BitVec 32 := Scalar.muli v21 c1_i32_521
  let v716 : BitVec 32 := Scalar.addi v714 v715
  v716.toNat
def k0_dev38 (d0 : Dev nD) : Nat :=
  let c0_i32_576 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_575 : BitVec 32 := 8#32
  let v773 : BitVec 32 := Scalar.muli v23 c8_i32_575
  let v774 : BitVec 32 := Scalar.addi c0_i32_576 v773
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_577 : BitVec 32 := 4#32
  let v775 : BitVec 32 := Scalar.muli v5 c4_i32_577
  let v776 : BitVec 32 := Scalar.addi v774 v775
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v777 : BitVec 32 := Scalar.muli v8 c1_i32_578
  let v778 : BitVec 32 := Scalar.addi v776 v777
  v778.toNat
def k0_dev39 (d0 : Dev nD) : Nat :=
  let c0_i32_585 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_584 : BitVec 32 := 8#32
  let v786 : BitVec 32 := Scalar.muli v2 c8_i32_584
  let v787 : BitVec 32 := Scalar.addi c0_i32_585 v786
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_586 : BitVec 32 := 4#32
  let v788 : BitVec 32 := Scalar.muli v5 c4_i32_586
  let v789 : BitVec 32 := Scalar.addi v787 v788
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_587 : BitVec 32 := 1#32
  let v790 : BitVec 32 := Scalar.muli v21 c1_i32_587
  let v791 : BitVec 32 := Scalar.addi v789 v790
  v791.toNat
def k0_dev40 (d0 : Dev nD) : Nat :=
  let c0_i32_642 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_641 : BitVec 32 := 8#32
  let v848 : BitVec 32 := Scalar.muli v23 c8_i32_641
  let v849 : BitVec 32 := Scalar.addi c0_i32_642 v848
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_643 : BitVec 32 := 4#32
  let v850 : BitVec 32 := Scalar.muli v5 c4_i32_643
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_644 : BitVec 32 := 1#32
  let v852 : BitVec 32 := Scalar.muli v8 c1_i32_644
  let v853 : BitVec 32 := Scalar.addi v851 v852
  v853.toNat
def k0_dev41 (d0 : Dev nD) : Nat :=
  let c0_i32_651 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_650 : BitVec 32 := 8#32
  let v861 : BitVec 32 := Scalar.muli v2 c8_i32_650
  let v862 : BitVec 32 := Scalar.addi c0_i32_651 v861
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_652 : BitVec 32 := 4#32
  let v863 : BitVec 32 := Scalar.muli v5 c4_i32_652
  let v864 : BitVec 32 := Scalar.addi v862 v863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_653 : BitVec 32 := 1#32
  let v865 : BitVec 32 := Scalar.muli v21 c1_i32_653
  let v866 : BitVec 32 := Scalar.addi v864 v865
  v866.toNat
def k0_dev42 (d0 : Dev nD) : Nat :=
  let c0_i32_708 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_707 : BitVec 32 := 8#32
  let v923 : BitVec 32 := Scalar.muli v23 c8_i32_707
  let v924 : BitVec 32 := Scalar.addi c0_i32_708 v923
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_709 : BitVec 32 := 4#32
  let v925 : BitVec 32 := Scalar.muli v5 c4_i32_709
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_710 : BitVec 32 := 1#32
  let v927 : BitVec 32 := Scalar.muli v8 c1_i32_710
  let v928 : BitVec 32 := Scalar.addi v926 v927
  v928.toNat
def k0_dev43 (d0 : Dev nD) : Nat :=
  let c0_i32_717 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_716 : BitVec 32 := 8#32
  let v936 : BitVec 32 := Scalar.muli v2 c8_i32_716
  let v937 : BitVec 32 := Scalar.addi c0_i32_717 v936
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_718 : BitVec 32 := 4#32
  let v938 : BitVec 32 := Scalar.muli v5 c4_i32_718
  let v939 : BitVec 32 := Scalar.addi v937 v938
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_719 : BitVec 32 := 1#32
  let v940 : BitVec 32 := Scalar.muli v21 c1_i32_719
  let v941 : BitVec 32 := Scalar.addi v939 v940
  v941.toNat
def k0_dev44 (d0 : Dev nD) : Nat :=
  let c0_i32_774 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_773 : BitVec 32 := 8#32
  let v998 : BitVec 32 := Scalar.muli v23 c8_i32_773
  let v999 : BitVec 32 := Scalar.addi c0_i32_774 v998
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_775 : BitVec 32 := 4#32
  let v1000 : BitVec 32 := Scalar.muli v5 c4_i32_775
  let v1001 : BitVec 32 := Scalar.addi v999 v1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_776 : BitVec 32 := 1#32
  let v1002 : BitVec 32 := Scalar.muli v8 c1_i32_776
  let v1003 : BitVec 32 := Scalar.addi v1001 v1002
  v1003.toNat
def k0_dev45 (d0 : Dev nD) : Nat :=
  let c0_i32_783 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_782 : BitVec 32 := 8#32
  let v1011 : BitVec 32 := Scalar.muli v2 c8_i32_782
  let v1012 : BitVec 32 := Scalar.addi c0_i32_783 v1011
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_784 : BitVec 32 := 4#32
  let v1013 : BitVec 32 := Scalar.muli v5 c4_i32_784
  let v1014 : BitVec 32 := Scalar.addi v1012 v1013
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_785 : BitVec 32 := 1#32
  let v1015 : BitVec 32 := Scalar.muli v21 c1_i32_785
  let v1016 : BitVec 32 := Scalar.addi v1014 v1015
  v1016.toNat
def k0_dev46 (d0 : Dev nD) : Nat :=
  let c0_i32_840 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_839 : BitVec 32 := 8#32
  let v1073 : BitVec 32 := Scalar.muli v23 c8_i32_839
  let v1074 : BitVec 32 := Scalar.addi c0_i32_840 v1073
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_841 : BitVec 32 := 4#32
  let v1075 : BitVec 32 := Scalar.muli v5 c4_i32_841
  let v1076 : BitVec 32 := Scalar.addi v1074 v1075
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_842 : BitVec 32 := 1#32
  let v1077 : BitVec 32 := Scalar.muli v8 c1_i32_842
  let v1078 : BitVec 32 := Scalar.addi v1076 v1077
  v1078.toNat
def k0_dev47 (d0 : Dev nD) : Nat :=
  let c0_i32_849 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_848 : BitVec 32 := 8#32
  let v1086 : BitVec 32 := Scalar.muli v2 c8_i32_848
  let v1087 : BitVec 32 := Scalar.addi c0_i32_849 v1086
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_850 : BitVec 32 := 4#32
  let v1088 : BitVec 32 := Scalar.muli v5 c4_i32_850
  let v1089 : BitVec 32 := Scalar.addi v1087 v1088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_851 : BitVec 32 := 1#32
  let v1090 : BitVec 32 := Scalar.muli v21 c1_i32_851
  let v1091 : BitVec 32 := Scalar.addi v1089 v1090
  v1091.toNat
def k0_dev48 (d0 : Dev nD) : Nat :=
  let c0_i32_906 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_905 : BitVec 32 := 8#32
  let v1148 : BitVec 32 := Scalar.muli v23 c8_i32_905
  let v1149 : BitVec 32 := Scalar.addi c0_i32_906 v1148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_907 : BitVec 32 := 4#32
  let v1150 : BitVec 32 := Scalar.muli v5 c4_i32_907
  let v1151 : BitVec 32 := Scalar.addi v1149 v1150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_908 : BitVec 32 := 1#32
  let v1152 : BitVec 32 := Scalar.muli v8 c1_i32_908
  let v1153 : BitVec 32 := Scalar.addi v1151 v1152
  v1153.toNat
def k0_dev49 (d0 : Dev nD) : Nat :=
  let c0_i32_915 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_914 : BitVec 32 := 8#32
  let v1161 : BitVec 32 := Scalar.muli v2 c8_i32_914
  let v1162 : BitVec 32 := Scalar.addi c0_i32_915 v1161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_916 : BitVec 32 := 4#32
  let v1163 : BitVec 32 := Scalar.muli v5 c4_i32_916
  let v1164 : BitVec 32 := Scalar.addi v1162 v1163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_917 : BitVec 32 := 1#32
  let v1165 : BitVec 32 := Scalar.muli v21 c1_i32_917
  let v1166 : BitVec 32 := Scalar.addi v1164 v1165
  v1166.toNat
def k0_dev50 (d0 : Dev nD) : Nat :=
  let c0_i32_972 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_971 : BitVec 32 := 8#32
  let v1223 : BitVec 32 := Scalar.muli v23 c8_i32_971
  let v1224 : BitVec 32 := Scalar.addi c0_i32_972 v1223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_973 : BitVec 32 := 4#32
  let v1225 : BitVec 32 := Scalar.muli v5 c4_i32_973
  let v1226 : BitVec 32 := Scalar.addi v1224 v1225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_974 : BitVec 32 := 1#32
  let v1227 : BitVec 32 := Scalar.muli v8 c1_i32_974
  let v1228 : BitVec 32 := Scalar.addi v1226 v1227
  v1228.toNat
def k0_dev51 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1236 : BitVec 32 := Scalar.muli v2 c8_i32_980
  let v1237 : BitVec 32 := Scalar.addi c0_i32_981 v1236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_982 : BitVec 32 := 4#32
  let v1238 : BitVec 32 := Scalar.muli v5 c4_i32_982
  let v1239 : BitVec 32 := Scalar.addi v1237 v1238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_983 : BitVec 32 := 1#32
  let v1240 : BitVec 32 := Scalar.muli v21 c1_i32_983
  let v1241 : BitVec 32 := Scalar.addi v1239 v1240
  v1241.toNat
def k0_dev52 (d0 : Dev nD) : Nat :=
  let c0_i32_1038 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1037 : BitVec 32 := 8#32
  let v1298 : BitVec 32 := Scalar.muli v23 c8_i32_1037
  let v1299 : BitVec 32 := Scalar.addi c0_i32_1038 v1298
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1039 : BitVec 32 := 4#32
  let v1300 : BitVec 32 := Scalar.muli v5 c4_i32_1039
  let v1301 : BitVec 32 := Scalar.addi v1299 v1300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1302 : BitVec 32 := Scalar.muli v8 c1_i32_1040
  let v1303 : BitVec 32 := Scalar.addi v1301 v1302
  v1303.toNat
def k0_dev53 (d0 : Dev nD) : Nat :=
  let c0_i32_1047 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1046 : BitVec 32 := 8#32
  let v1311 : BitVec 32 := Scalar.muli v2 c8_i32_1046
  let v1312 : BitVec 32 := Scalar.addi c0_i32_1047 v1311
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1048 : BitVec 32 := 4#32
  let v1313 : BitVec 32 := Scalar.muli v5 c4_i32_1048
  let v1314 : BitVec 32 := Scalar.addi v1312 v1313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1049 : BitVec 32 := 1#32
  let v1315 : BitVec 32 := Scalar.muli v21 c1_i32_1049
  let v1316 : BitVec 32 := Scalar.addi v1314 v1315
  v1316.toNat
def k0_dev54 (d0 : Dev nD) : Nat :=
  let c0_i32_1104 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1103 : BitVec 32 := 8#32
  let v1373 : BitVec 32 := Scalar.muli v23 c8_i32_1103
  let v1374 : BitVec 32 := Scalar.addi c0_i32_1104 v1373
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1105 : BitVec 32 := 4#32
  let v1375 : BitVec 32 := Scalar.muli v5 c4_i32_1105
  let v1376 : BitVec 32 := Scalar.addi v1374 v1375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1106 : BitVec 32 := 1#32
  let v1377 : BitVec 32 := Scalar.muli v8 c1_i32_1106
  let v1378 : BitVec 32 := Scalar.addi v1376 v1377
  v1378.toNat
def k0_dev55 (d0 : Dev nD) : Nat :=
  let c0_i32_1113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1112 : BitVec 32 := 8#32
  let v1386 : BitVec 32 := Scalar.muli v2 c8_i32_1112
  let v1387 : BitVec 32 := Scalar.addi c0_i32_1113 v1386
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1114 : BitVec 32 := 4#32
  let v1388 : BitVec 32 := Scalar.muli v5 c4_i32_1114
  let v1389 : BitVec 32 := Scalar.addi v1387 v1388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1115 : BitVec 32 := 1#32
  let v1390 : BitVec 32 := Scalar.muli v21 c1_i32_1115
  let v1391 : BitVec 32 := Scalar.addi v1389 v1390
  v1391.toNat
def k0_dev56 (d0 : Dev nD) : Nat :=
  let c0_i32_1170 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1169 : BitVec 32 := 8#32
  let v1448 : BitVec 32 := Scalar.muli v23 c8_i32_1169
  let v1449 : BitVec 32 := Scalar.addi c0_i32_1170 v1448
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1171 : BitVec 32 := 4#32
  let v1450 : BitVec 32 := Scalar.muli v5 c4_i32_1171
  let v1451 : BitVec 32 := Scalar.addi v1449 v1450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1172 : BitVec 32 := 1#32
  let v1452 : BitVec 32 := Scalar.muli v8 c1_i32_1172
  let v1453 : BitVec 32 := Scalar.addi v1451 v1452
  v1453.toNat
def k0_dev57 (d0 : Dev nD) : Nat :=
  let c0_i32_1179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1178 : BitVec 32 := 8#32
  let v1461 : BitVec 32 := Scalar.muli v2 c8_i32_1178
  let v1462 : BitVec 32 := Scalar.addi c0_i32_1179 v1461
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1180 : BitVec 32 := 4#32
  let v1463 : BitVec 32 := Scalar.muli v5 c4_i32_1180
  let v1464 : BitVec 32 := Scalar.addi v1462 v1463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1181 : BitVec 32 := 1#32
  let v1465 : BitVec 32 := Scalar.muli v21 c1_i32_1181
  let v1466 : BitVec 32 := Scalar.addi v1464 v1465
  v1466.toNat
def k0_off3 (d0 : Dev nD) (c1536_i32_1232 : BitVec 32) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.subi c1_i32_16 v18
  let v33 : BitVec 32 := Scalar.addi v31 v32
  let c4096_i32_17 : BitVec 32 := 4096#32
  let v34 : BitVec 32 := Scalar.muli v33 c4096_i32_17
  let v1522 : BitVec 32 := Scalar.addi v34 c1536_i32_1232
  let c0_i32_1239 : BitVec 32 := 0#32
  ![v1522.toNat, 0]
def k0_dev58 (d0 : Dev nD) : Nat :=
  let c0_i32_1236 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1235 : BitVec 32 := 8#32
  let v1523 : BitVec 32 := Scalar.muli v23 c8_i32_1235
  let v1524 : BitVec 32 := Scalar.addi c0_i32_1236 v1523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1237 : BitVec 32 := 4#32
  let v1525 : BitVec 32 := Scalar.muli v5 c4_i32_1237
  let v1526 : BitVec 32 := Scalar.addi v1524 v1525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1238 : BitVec 32 := 1#32
  let v1527 : BitVec 32 := Scalar.muli v8 c1_i32_1238
  let v1528 : BitVec 32 := Scalar.addi v1526 v1527
  v1528.toNat
def k0_dev59 (d0 : Dev nD) : Nat :=
  let c0_i32_1293 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1292 : BitVec 32 := 8#32
  let v1585 : BitVec 32 := Scalar.muli v23 c8_i32_1292
  let v1586 : BitVec 32 := Scalar.addi c0_i32_1293 v1585
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1294 : BitVec 32 := 4#32
  let v1587 : BitVec 32 := Scalar.muli v5 c4_i32_1294
  let v1588 : BitVec 32 := Scalar.addi v1586 v1587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1295 : BitVec 32 := 1#32
  let v1589 : BitVec 32 := Scalar.muli v8 c1_i32_1295
  let v1590 : BitVec 32 := Scalar.addi v1588 v1589
  v1590.toNat
def k0_dev60 (d0 : Dev nD) : Nat :=
  let c0_i32_1350 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1349 : BitVec 32 := 8#32
  let v1647 : BitVec 32 := Scalar.muli v23 c8_i32_1349
  let v1648 : BitVec 32 := Scalar.addi c0_i32_1350 v1647
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1351 : BitVec 32 := 4#32
  let v1649 : BitVec 32 := Scalar.muli v5 c4_i32_1351
  let v1650 : BitVec 32 := Scalar.addi v1648 v1649
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1352 : BitVec 32 := 1#32
  let v1651 : BitVec 32 := Scalar.muli v8 c1_i32_1352
  let v1652 : BitVec 32 := Scalar.addi v1650 v1651
  v1652.toNat
def k0_dev61 (d0 : Dev nD) : Nat :=
  let c0_i32_1407 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1406 : BitVec 32 := 8#32
  let v1709 : BitVec 32 := Scalar.muli v23 c8_i32_1406
  let v1710 : BitVec 32 := Scalar.addi c0_i32_1407 v1709
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1408 : BitVec 32 := 4#32
  let v1711 : BitVec 32 := Scalar.muli v5 c4_i32_1408
  let v1712 : BitVec 32 := Scalar.addi v1710 v1711
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1409 : BitVec 32 := 1#32
  let v1713 : BitVec 32 := Scalar.muli v8 c1_i32_1409
  let v1714 : BitVec 32 := Scalar.addi v1712 v1713
  v1714.toNat
def k0_dev62 (d0 : Dev nD) : Nat :=
  let c0_i32_1464 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1463 : BitVec 32 := 8#32
  let v1771 : BitVec 32 := Scalar.muli v23 c8_i32_1463
  let v1772 : BitVec 32 := Scalar.addi c0_i32_1464 v1771
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1465 : BitVec 32 := 4#32
  let v1773 : BitVec 32 := Scalar.muli v5 c4_i32_1465
  let v1774 : BitVec 32 := Scalar.addi v1772 v1773
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1466 : BitVec 32 := 1#32
  let v1775 : BitVec 32 := Scalar.muli v8 c1_i32_1466
  let v1776 : BitVec 32 := Scalar.addi v1774 v1775
  v1776.toNat
def k0_off4 (d0 : Dev nD) (c2816_i32_1517 : BitVec 32) : Fin 2 → Nat :=
  let c2_i32_13 : BitVec 32 := 2#32
  let c1_i32_12 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_12 v2
  let v28 : BitVec 32 := Scalar.muli c2_i32_13 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v29 : BitVec 32 := Scalar.addi v28 v18
  let c4096_i32_14 : BitVec 32 := 4096#32
  let v30 : BitVec 32 := Scalar.muli v29 c4096_i32_14
  let v1832 : BitVec 32 := Scalar.addi v30 c2816_i32_1517
  let c0_i32_1524 : BitVec 32 := 0#32
  ![v1832.toNat, 0]
def k0_dev63 (d0 : Dev nD) : Nat :=
  let c0_i32_1521 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1520 : BitVec 32 := 8#32
  let v1833 : BitVec 32 := Scalar.muli v2 c8_i32_1520
  let v1834 : BitVec 32 := Scalar.addi c0_i32_1521 v1833
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1522 : BitVec 32 := 4#32
  let v1835 : BitVec 32 := Scalar.muli v5 c4_i32_1522
  let v1836 : BitVec 32 := Scalar.addi v1834 v1835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1523 : BitVec 32 := 1#32
  let v1837 : BitVec 32 := Scalar.muli v21 c1_i32_1523
  let v1838 : BitVec 32 := Scalar.addi v1836 v1837
  v1838.toNat
def k0_dev64 (d0 : Dev nD) : Nat :=
  let c0_i32_1578 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1577 : BitVec 32 := 8#32
  let v1895 : BitVec 32 := Scalar.muli v2 c8_i32_1577
  let v1896 : BitVec 32 := Scalar.addi c0_i32_1578 v1895
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1579 : BitVec 32 := 4#32
  let v1897 : BitVec 32 := Scalar.muli v5 c4_i32_1579
  let v1898 : BitVec 32 := Scalar.addi v1896 v1897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1580 : BitVec 32 := 1#32
  let v1899 : BitVec 32 := Scalar.muli v21 c1_i32_1580
  let v1900 : BitVec 32 := Scalar.addi v1898 v1899
  v1900.toNat
def k0_dev65 (d0 : Dev nD) : Nat :=
  let c0_i32_1635 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1634 : BitVec 32 := 8#32
  let v1957 : BitVec 32 := Scalar.muli v2 c8_i32_1634
  let v1958 : BitVec 32 := Scalar.addi c0_i32_1635 v1957
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1636 : BitVec 32 := 4#32
  let v1959 : BitVec 32 := Scalar.muli v5 c4_i32_1636
  let v1960 : BitVec 32 := Scalar.addi v1958 v1959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1637 : BitVec 32 := 1#32
  let v1961 : BitVec 32 := Scalar.muli v21 c1_i32_1637
  let v1962 : BitVec 32 := Scalar.addi v1960 v1961
  v1962.toNat
def k0_dev66 (d0 : Dev nD) : Nat :=
  let c0_i32_1692 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1691 : BitVec 32 := 8#32
  let v2019 : BitVec 32 := Scalar.muli v2 c8_i32_1691
  let v2020 : BitVec 32 := Scalar.addi c0_i32_1692 v2019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1693 : BitVec 32 := 4#32
  let v2021 : BitVec 32 := Scalar.muli v5 c4_i32_1693
  let v2022 : BitVec 32 := Scalar.addi v2020 v2021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1694 : BitVec 32 := 1#32
  let v2023 : BitVec 32 := Scalar.muli v21 c1_i32_1694
  let v2024 : BitVec 32 := Scalar.addi v2022 v2023
  v2024.toNat
def k0_dev67 (d0 : Dev nD) : Nat :=
  let c0_i32_1749 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1748 : BitVec 32 := 8#32
  let v2081 : BitVec 32 := Scalar.muli v2 c8_i32_1748
  let v2082 : BitVec 32 := Scalar.addi c0_i32_1749 v2081
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1750 : BitVec 32 := 4#32
  let v2083 : BitVec 32 := Scalar.muli v5 c4_i32_1750
  let v2084 : BitVec 32 := Scalar.addi v2082 v2083
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1751 : BitVec 32 := 1#32
  let v2085 : BitVec 32 := Scalar.muli v21 c1_i32_1751
  let v2086 : BitVec 32 := Scalar.addi v2084 v2085
  v2086.toNat
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Text.lean ====
/-
# The kernel's text, as a loop over its transfers and its chunks

The printed body is some eight hundred memory operations in a row. Here the same program is written by recursion:
the 64 remote copies are indexed by a type `Tr`, the 64 additions by a step number, and the theorem `body_eq` at the end
says that the printed body reads its device and then is this program. Everything after this file reasons about the
recursive text.
-/
module

public import proofs.«01_k».proof.Proof.Gen.KernelIdeal
public import Idealize.ShloMosaic.Lib.Pipeline.Regions

@[expose] public section

noncomputable section

namespace Cert.Allsum

open Cert.KernelIdeal Cert.KernelIdeal.Gen
open Idealize.ShloMosaic Idealize.ShloMosaic.TcCoe Idealize.SL.Sem

variable {F : FTy → Type} [FloatOps F]

/-! ## Arrays, chunks and slots -/

abbrev Hbm : Type := Memref sig .tc .hbm S16384x1024 .f32
abbrev Chunk : Type := Memref sig .tc .hbm S256x1024 .f32
abbrev Vmem : Type := Memref sig .tc .vmem S2x256x1024 .f32
abbrev Slot : Type := Memref sig .tc .vmem S256x1024 .f32

/-- The device's own half of the rows, the result, and the array the neighbours' copies land in. -/
abbrev xM : Hbm := Memref.whole main_arg0
abbrev oM : Hbm := Memref.whole main_v1_0
abbrev rM : Hbm := Memref.whole main_v1_1
/-- The two staging buffers of the addition, of two slots each. -/
abbrev aM : Vmem := Memref.whole cc0_scratch0
abbrev bM : Vmem := Memref.whole cc0_scratch1

/-- The first row of the quarter `q`, seen from device `d`: its own, its x neighbour's, its z neighbour's, the opposite. -/
def offQ (q : Fin 4) (d : Dev nD) (w : BitVec 32) : Fin 2 → Nat :=
  match q with
  | 0 => k0_off1 d w
  | 1 => k0_off4 d w
  | 2 => k0_off3 d w
  | 3 => k0_off2 d w

theorem offQ_inb (q : Fin 4) (d : Dev nD) (k : Fin 16) :
    ∀ a, offQ q d (BitVec.ofNat 32 (256 * k.val)) a + S256x1024.size a ≤ S16384x1024.size a :=
  match q with
  | 0 => k0_off1_inb d k
  | 1 => k0_off4_inb d k
  | 2 => k0_off3_inb d k
  | 3 => k0_off2_inb d k

/-- Chunk `k` of quarter `q` of an array. -/
def rowsQ (a : Hbm) (q : Fin 4) (k : Fin 16) (d : Dev nD) : Chunk :=
  a.slice (Rect.unit (s := S16384x1024) (offQ q d (BitVec.ofNat 32 (256 * k.val))) S256x1024.size (offQ_inb q d k)) (fun _ => rfl)

theorem slot_inb : ∀ s : Fin 2, ∀ a, (![s.val, 0, 0] : Fin 3 → Nat) a + S1x256x1024.size a ≤ S2x256x1024.size a := by decide

abbrev slotRect (s : Fin 2) : Rect S2x256x1024 := Rect.unit (s := S2x256x1024) ![s.val, 0, 0] S1x256x1024.size (slot_inb s)

/-- Slot `s` of a staging buffer. -/
def slotM (b : Vmem) (s : Fin 2) : Slot :=
  (b.slice (slotRect s) (fun _ => rfl)).squeeze S256x1024 squeezes_S1x256x1024_S256x1024

/-! ## Transfers -/

/-- The remote copies: 22 to the y neighbour, 21 to the x neighbour, 21 to the z neighbour. -/
abbrev Tr : Type := Fin 22 ⊕ Fin 21 ⊕ Fin 21

def trY (n : Nat) : Tr := .inl (Fin.ofNat 22 n)
def trX (n : Nat) : Tr := .inr (.inl (Fin.ofNat 21 n))
def trZ (n : Nat) : Tr := .inr (.inr (Fin.ofNat 21 n))

theorem inb22 : ∀ j : Fin 22, ∀ a, (![j.val] : Fin 1 → Nat) a + S1.size a ≤ S22.size a := by decide
theorem inb21 : ∀ j : Fin 21, ∀ a, (![j.val] : Fin 1 → Nat) a + S1.size a ≤ S21.size a := by decide
theorem inb4 : ∀ j : Fin 4, ∀ a, (![j.val] : Fin 1 → Nat) a + S1.size a ≤ S4.size a := by decide
theorem inb2 : ∀ j : Fin 2, ∀ a, (![j.val] : Fin 1 → Nat) a + S1.size a ≤ S2.size a := by decide

def sem22 (b : DmaSems sig S22) (j : Fin 22) : DmaSem sig :=
  ((b.slice (Rect.unit (s := S22) ![j.val] S1.size (inb22 j))).squeeze S_ squeezes_S1_S_).sem
def sem21 (b : DmaSems sig S21) (j : Fin 21) : DmaSem sig :=
  ((b.slice (Rect.unit (s := S21) ![j.val] S1.size (inb21 j))).squeeze S_ squeezes_S1_S_).sem
/-- The semaphores of the loads into slot 0 and 1 of the first buffer, then of the second. -/
def ldS (j : Fin 4) : DmaSem sig :=
  ((cc0_scratch8.slice (Rect.unit (s := S4) ![j.val] S1.size (inb4 j))).squeeze S_ squeezes_S1_S_).sem
/-- The semaphores of the stores out of slot 0 and 1. -/
def stS (s : Fin 2) : DmaSem sig :=
  ((cc0_scratch9.slice (Rect.unit (s := S2) ![s.val] S1.size (inb2 s))).squeeze S_ squeezes_S1_S_).sem

def sndS : Tr → DmaSem sig
  | .inl j => sem22 cc0_scratch2 j
  | .inr (.inl j) => sem21 cc0_scratch4 j
  | .inr (.inr j) => sem21 cc0_scratch6 j
def rcvS : Tr → DmaSem sig
  | .inl j => sem22 cc0_scratch3 j
  | .inr (.inl j) => sem21 cc0_scratch5 j
  | .inr (.inr j) => sem21 cc0_scratch7 j

/-- The runtime's barrier semaphore. -/
abbrev barS : Sem sig := (SemArray.scalar (sig.barrier 0 rfl) : Sems sig S_).sem

/-- The quarter and the chunk a transfer reads, seen from the sender. -/
def trQ : Tr → Fin 4
  | .inl j => if j.val < 16 then 0 else 3
  | .inr (.inl j) => if j.val < 16 then 0 else 2
  | .inr (.inr j) => if j.val < 16 then 0 else 1
def trK : Tr → Fin 16
  | .inl j => if j.val < 16 then Fin.ofNat 16 j.val else Fin.ofNat 16 (j.val - 16)
  | .inr (.inl j) => if j.val < 16 then Fin.ofNat 16 j.val else Fin.ofNat 16 (j.val - 10)
  | .inr (.inr j) => if j.val < 16 then Fin.ofNat 16 j.val else Fin.ofNat 16 (j.val - 5)
/-- The array it reads: a y transfer the device's own rows, the others what has landed. -/
def trM : Tr → Hbm
  | .inl _ => xM
  | .inr _ => rM
/-- The device it goes to. -/
def trD (t : Tr) (d : Dev nD) : Dev nD :=
  match t with
  | .inl _ => ⟨k0_dev1 d, k0_dev1_lt d⟩
  | .inr (.inl _) => ⟨k0_dev2 d, k0_dev2_lt d⟩
  | .inr (.inr _) => ⟨k0_dev3 d, k0_dev3_lt d⟩

/-! ## Steps -/

/-- The quarter, the chunk, the awaited transfer and the copies passed on at step `i`. -/
def stQ (i : Nat) : Fin 4 :=
  if i < 16 then 0 else if i < 21 then 2 else if i < 37 then 1 else if i < 48 then 2 else 3
def stK (i : Nat) : Fin 16 :=
  Fin.ofNat 16 (if i < 16 then i else if i < 26 then i - 10 else if i < 37 then i - 26 else if i < 43 then i - 37
    else if i < 48 then i - 32 else i - 48)
def stR (i : Nat) : Tr :=
  if i < 16 then trY i else if i < 21 then trZ (i - 10) else if i < 26 then trX (i - 10) else if i < 37 then trX (i - 26)
    else if i < 43 then trZ (i - 37) else if i < 48 then trZ (i - 32) else if i < 54 then trY (i - 32)
    else if i < 59 then trX (i - 38) else trZ (i - 43)
def stS' (i : Nat) : List Tr :=
  if i < 16 then [trX i, trZ i] else if i < 21 then [trX i] else if i < 26 then [trZ (i - 5)] else []

abbrev P (F : FTy → Type) [FloatOps F] : Type 1 := Prog (TpuEff nD τ sig (Elt F) Λ₀ .tc) PUnit

/-- Start transfer `t`. -/
def send (d : Dev nD) (t : Tr) : P F :=
  Prog.lift (.enqueueDma (rowsQ (trM t) (trQ t) (trK t) d)
    (.remote (Dev.tc (trD t d)) (rowsQ rM (trQ t) (trK t) d) (.dma (sndS t))) (.dma (rcvS t))
    (View.wordExact_bits rfl) (View.wordExact_bits rfl) ⟨⟨rfl, Or.inl rfl⟩, trivial⟩)

/-- Wait until transfer `t` has landed here. -/
def recv (d : Dev nD) (t : Tr) : P F :=
  Prog.lift (.waitDma2 (rcvS t) (rowsQ (trM t) (trQ t) (trK t) d) (rowsQ rM (trQ t) (trK t) d)
    (View.wordExact_bits rfl) (View.wordExact_bits rfl))

/-- Wait until transfer `t` has read its source. -/
def sent (d : Dev nD) (t : Tr) : P F :=
  Prog.lift (.waitDma2 (sndS t) (rowsQ rM (trQ t) (trK t) d) (rowsQ (trM t) (trQ t) (trK t) d)
    (View.wordExact_bits rfl) (View.wordExact_bits rfl))

/-- Start loading the chunk of step `i` into slot `s` of both buffers. -/
def fetch (d : Dev nD) (s : Fin 2) (i : Nat) : P F := do
  Prog.lift (.enqueueDma (rowsQ xM (stQ i) (stK i) d) (.here (slotM aM s)) (.dma (ldS ⟨s.val, by omega⟩))
    (View.wordExact_bits rfl) ((View.wordExact_bits rfl).reshape _ _) ⟨Or.inl rfl, trivial⟩)
  Prog.lift (.enqueueDma (rowsQ rM (stQ i) (stK i) d) (.here (slotM bM s)) (.dma (ldS ⟨2 + s.val, by omega⟩))
    (View.wordExact_bits rfl) ((View.wordExact_bits rfl).reshape _ _) ⟨Or.inl rfl, trivial⟩)

/-- The sum of the two slots. -/
def sumOf (u v : Vec F S1x256x1024 .f32) : FVec F S1x256x1024 .f32 :=
  shapeCast S1x256x1024 (addf (shapeCast S256x1024 u shapeCasts_S1x256x1024_S256x1024)
    (shapeCast S256x1024 v shapeCasts_S1x256x1024_S256x1024)) shapeCasts_S256x1024_S1x256x1024

/-- Wait for the two loads of step `i`, add in place, start storing. -/
def combine (d : Dev nD) (s : Fin 2) (i : Nat) : P F := do
  Prog.lift (.waitDma2 (ldS ⟨s.val, by omega⟩) (rowsQ xM (stQ i) (stK i) d) (slotM aM s)
    (View.wordExact_bits rfl) ((View.wordExact_bits rfl).reshape _ _))
  Prog.lift (.waitDma2 (ldS ⟨2 + s.val, by omega⟩) (rowsQ rM (stQ i) (stK i) d) (slotM bM s)
    (View.wordExact_bits rfl) ((View.wordExact_bits rfl).reshape _ _))
  let u : Vec F S1x256x1024 .f32 ← Prog.lift (.load aM (slotRect s).toLoadRect (View.loadsAt_vmem h_S1x256x1024))
  let v : Vec F S1x256x1024 .f32 ← Prog.lift (.load bM (slotRect s).toLoadRect (View.loadsAt_vmem h_S1x256x1024))
  let _ : Vec F S1x256x1024 .f32 ← Prog.lift (.load aM (slotRect s).toLoadRect (View.loadsAt_vmem h_S1x256x1024))
  Prog.lift (.store aM (slotRect s) (sumOf u v) Finset.univ (View.stores_vmem_bits_univ h_S1x256x1024 rfl) (.inl rfl))
  Prog.lift (.enqueueDma (slotM aM s) (.here (rowsQ oM (stQ i) (stK i) d)) (.dma (stS s))
    ((View.wordExact_bits rfl).reshape _ _) (View.wordExact_bits rfl) ⟨Or.inl rfl, trivial⟩)

/-- Wait until the store of step `i` out of slot `s` is done. -/
def stored (d : Dev nD) (s : Fin 2) (i : Nat) : P F :=
  Prog.lift (.waitDma2 (stS s) (slotM aM s) (rowsQ oM (stQ i) (stK i) d)
    ((View.wordExact_bits rfl).reshape _ _) (View.wordExact_bits rfl))

/-- A program for each of a list, in order. -/
def each {α : Type} (f : α → P F) : List α → P F
  | [] => .ret ⟨⟩
  | a :: l => f a >>= fun _ => each f l

/-- Step 0 only starts its loads, step 1 combines step 0 besides, from step 2 on the slot is first waited for. -/
def add (d : Dev nD) : Nat → P F
  | 0 => fetch d 0 0
  | 1 => do fetch d 1 1; combine d 0 0
  | i + 2 => do
    stored d (Fin.ofNat 2 i) i
    fetch d (Fin.ofNat 2 i) (i + 2)
    combine d (Fin.ofNat 2 (i + 1)) (i + 1)

def step (d : Dev nD) (i : Nat) : P F := do
  recv d (stR i)
  each (send d) (stS' i)
  add d i

/-- The transfers in the order in which their sends are waited for. -/
def trs : List Tr := (List.range 22).map trY ++ ((List.range 21).map trX ++ (List.range 21).map trZ)

/-- The kernel on device `d`. -/
def text (d : Dev nD) : P F := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32
  each (send d) ((List.range 22).map trY)
  each (step d) (List.range 64)
  combine d 1 63
  stored d 0 62
  stored d 1 63
  each (sent d) trs

set_option maxRecDepth 100000 in
/-- The printed body is this text. -/
theorem body_eq : cc0_body (F := F) xM (Memref.isWhole_whole _) oM (Memref.isWhole_whole _) rM (Memref.isWhole_whole _)
      aM (Memref.isWhole_whole _) bM (Memref.isWhole_whole _) cc0_scratch2 cc0_scratch3 cc0_scratch4 cc0_scratch5 cc0_scratch6
      cc0_scratch7 cc0_scratch8 cc0_scratch9
    = Prog.op .deviceId (fun d => text d) := by
  chain_rfl

end Cert.Allsum

end
-- ==== Proof.Mesh.lean ====
/-
# Which device holds what

Finite facts of the mesh of 16 devices and of the schedule of the 64 chunks: whom each transfer goes to, which chunk it
carries, whose rows these are, which step waits for it, and which step passes it on. All are checked by evaluation.
-/
module

public import proofs.«01_k».proof.Proof.Text

@[expose] public section

noncomputable section

namespace Cert.Allsum

open Cert.KernelIdeal Cert.KernelIdeal.Gen
open Idealize.ShloMosaic Idealize.ShloMosaic.TcCoe Idealize.SL.Sem

/-! ## Neighbours -/

/-- The neighbour in direction `j`: 0 along y, 1 along x, 2 along z. -/
def nb (j : Fin 3) (d : Dev nD) : Dev nD :=
  match j with
  | 0 => ⟨k0_dev1 d, k0_dev1_lt d⟩
  | 1 => ⟨k0_dev2 d, k0_dev2_lt d⟩
  | 2 => ⟨k0_dev3 d, k0_dev3_lt d⟩

/-- The direction of a transfer. -/
def trJ : Tr → Fin 3
  | .inl _ => 0
  | .inr (.inl _) => 1
  | .inr (.inr _) => 2

theorem trD_eq (t : Tr) (d : Dev nD) : trD t d = nb (trJ t) d := by
  rcases t with t | t | t <;> rfl

theorem nb_nb : ∀ (j : Fin 3) (d : Dev nD), nb j (nb j d) = d := by decide +kernel

theorem trD_trD (t : Tr) (d : Dev nD) : trD t (trD t d) = d := by
  rw [trD_eq, trD_eq, nb_nb]

/-- A direction's neighbours are a renaming of the devices. -/
def nbEquiv (j : Fin 3) : Dev nD ≃ Dev nD := ⟨nb j, nb j, nb_nb j, nb_nb j⟩

/-! ## Chunks -/

/-- The chunk, counted from the top of the array, that is chunk `k` of quarter `q` seen from device `d`. -/
def chunk (q : Fin 4) (k : Fin 16) (d : Dev nD) : Fin 64 :=
  let x := d.val / 8
  let z := d.val % 2
  Fin.ofNat 64 (16 * (match q with
    | 0 => 2 * x + z
    | 1 => 2 * (1 - x) + z
    | 2 => 2 * x + (1 - z)
    | 3 => 2 * (1 - x) + (1 - z)) + k.val)

theorem offQ_eq : ∀ (q : Fin 4) (k : Fin 16) (d : Dev nD),
    offQ q d (BitVec.ofNat 32 (256 * k.val)) = ![256 * (chunk q k d).val, 0] := by decide +kernel

theorem rows_inb : ∀ n : Fin 64, ∀ a, (![256 * n.val, 0] : Fin 2 → Nat) a + S256x1024.size a ≤ S16384x1024.size a := by decide

abbrev rowsRect (n : Fin 64) : Rect S16384x1024 := Rect.unit (s := S16384x1024) ![256 * n.val, 0] S256x1024.size (rows_inb n)

/-- The `n`-th chunk of an array. -/
def rows (a : Hbm) (n : Fin 64) : Chunk := a.slice (rowsRect n) (fun _ => rfl)

theorem rowsQ_eq (a : Hbm) (q : Fin 4) (k : Fin 16) (d : Dev nD) : rowsQ a q k d = rows a (chunk q k d) := by
  unfold rowsQ rows rowsRect
  have h := offQ_eq q k d
  generalize_proofs p₁ p₂ p₃ p₄ at *
  revert p₁ p₂
  rw [h]
  intros; rfl

/-- The chunk device `d` sends in transfer `t`; the neighbour receives the same one. -/
def sc (t : Tr) (d : Dev nD) : Fin 64 := chunk (trQ t) (trK t) d

/-- The chunk of step `i`. -/
def ic (i : Nat) (d : Dev nD) : Fin 64 := chunk (stQ i) (stK i) d

/-- The chunk device `d` receives in transfer `t`. -/
def rc (t : Tr) (d : Dev nD) : Fin 64 := sc t (trD t d)

/-! ## Whose rows -/

/-- The device whose own rows arrive at device `d` as chunk `n`. -/
def origin (d : Dev nD) (n : Fin 64) : Dev nD :=
  let qx := n.val / 32
  let qz := n.val / 16 % 2
  let x := d.val / 8
  let z := d.val % 2
  if qx = x then (if qz = z then nb 0 d else nb 0 (nb 2 d))
  else if qz = z then nb 0 (nb 1 d)
  else if n.val % 16 < 6 then nb 0 d else nb 0 (nb 1 (nb 2 d))

/-- A y transfer carries the sender's own rows. -/
theorem origin_y : ∀ (j : Fin 22) (d : Dev nD), origin (trD (.inl j) d) (sc (.inl j) d) = d := by decide +kernel

/-- The other transfers pass on what the sender has received. -/
theorem origin_xz : ∀ (j : Fin 21 ⊕ Fin 21) (d : Dev nD),
    origin (trD (.inr j) d) (sc (.inr j) d) = origin d (sc (.inr j) d) := by decide +kernel

/-- The rows a device receives belong to the other half of the y axis. -/
theorem origin_block : ∀ (d : Dev nD) (n : Fin 64), (origin d n).val / 4 % 2 = 1 - d.val / 4 % 2 := by decide +kernel

/-! ## The schedule -/

/-- Step `i` works on the chunk it has waited for, -/
theorem ic_stR (i : Nat) (hi : i < 64) (d : Dev nD) : ic i d = rc (stR i) d := by
  have h : ∀ (i : Fin 64) (d : Dev nD), ic i.val d = rc (stR i.val) d := by decide +kernel
  exact h ⟨i, hi⟩ d

/-- and passes on that chunk. -/
theorem sc_stS (i : Nat) (hi : i < 64) (d : Dev nD) : ∀ t ∈ stS' i, sc t d = ic i d := by
  have h : ∀ (i : Fin 64), ∀ t ∈ stS' i.val, trQ t = stQ i.val ∧ trK t = stK i.val := by decide +kernel
  intro t ht
  unfold sc ic
  rw [(h ⟨i, hi⟩ t ht).1, (h ⟨i, hi⟩ t ht).2]

/-- Steps and chunks correspond one to one. -/
theorem ic_inj (d : Dev nD) : Function.Injective (fun i : Fin 64 => ic i.val d) := by
  have h : ∀ (d : Dev nD) (i j : Fin 64), ic i.val d = ic j.val d → i = j := by decide +kernel
  exact fun i j e => h d i j e

theorem trs_nodup : trs.Nodup := by decide +kernel

/-- Every transfer is awaited by one step. -/
theorem steps_perm : ((List.range 64).map stR).Perm trs := by decide +kernel

/-- The transfers passed on, in the order of the steps. -/
def fwd (l : List Nat) : List Tr := l.flatMap stS'

/-- Every transfer is sent once: at the start or by a step. -/
theorem sends_perm : ((List.range 22).map trY ++ fwd (List.range 64)).Perm trs := by decide +kernel

/-- One more than the step that sends a transfer; 0 for those sent at the start. -/
def trL : Tr → Nat
  | .inl _ => 0
  | .inr (.inl j) => j.val + 1
  | .inr (.inr j) => if j.val < 16 then j.val + 1 else j.val + 6

theorem trL_stS (i : Nat) (hi : i < 64) : ∀ t ∈ stS' i, trL t = i + 1 := by
  have h : ∀ (i : Fin 64), ∀ t ∈ stS' i.val, trL t = i.val + 1 := by decide +kernel
  exact h ⟨i, hi⟩

/-- What a step waits for was sent by an earlier step. -/
theorem trL_stR (i : Nat) (hi : i < 64) : trL (stR i) ≤ i := by
  have h : ∀ i : Fin 64, trL (stR i.val) ≤ i.val := by decide +kernel
  exact h ⟨i, hi⟩

/-! ## Semaphores -/

/-- The transfer a semaphore announces the landing of. -/
def asRcv (s : SemLoc sig) : Option Tr := trs.find? fun t => s = .dma (rcvS t)
/-- The transfer a semaphore announces the departure of. -/
def asSnd (s : SemLoc sig) : Option Tr := trs.find? fun t => s = .dma (sndS t)

theorem asRcv_rcv : ∀ t, asRcv (.dma (rcvS t)) = some t := by decide +kernel
theorem mem_trs (t : Tr) : t ∈ trs := List.mem_of_find?_eq_some (asRcv_rcv t)
theorem asRcv_snd : ∀ t, asRcv (.dma (sndS t)) = none := by decide +kernel
theorem asSnd_snd : ∀ t, asSnd (.dma (sndS t)) = some t := by decide +kernel
theorem asSnd_rcv : ∀ t, asSnd (.dma (rcvS t)) = none := by decide +kernel
theorem asRcv_bar : asRcv (.reg barS) = none := by decide +kernel
theorem asSnd_bar : asSnd (.reg barS) = none := by decide +kernel
theorem asRcv_ld : ∀ j, asRcv (.dma (ldS j)) = none := by decide +kernel
theorem asRcv_st : ∀ j, asRcv (.dma (stS j)) = none := by decide +kernel

/-- The kernel's own semaphores: one of each transfer's departures, one of its landings, and six for the local copies. -/
def own : List (SemLoc sig) :=
  trs.map (fun t => .dma (sndS t)) ++ (trs.map (fun t => .dma (rcvS t))
    ++ ((List.finRange 4).map (fun j => .dma (ldS j)) ++ (List.finRange 2).map (fun j => .dma (stS j))))

theorem own_nodup : own.Nodup := by decide +kernel
theorem mem_own : ∀ s : SemLoc sig, SemLoc.isScoped .tc s = true ↔ s ∈ own := by decide +kernel

end Cert.Allsum

end
-- ==== Proof.Data.lean ====
/-
# What the chunks and the slots hold

The contents of the arrays during the run, as functions of the memory at launch: a device's own rows, the rows that land
on it, the sums it stores. Then what reading and writing one chunk, or one staging slot, means for these.
-/
module

public import proofs.«01_k».proof.Proof.Mesh
public import Idealize.ShloMosaic.Lib.Ring
public import Idealize.ShloMosaic.Lib.Pipeline.Launch

@[expose] public section

noncomputable section

namespace Cert.Allsum

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode

variable {F : FTy → Type} [FloatOps F]

/-- The contents of one of the arrays. -/
abbrev Arr (F : FTy → Type) [FloatOps F] : Type := S16384x1024.Idx → Elt F .f32
/-- The contents of one chunk. -/
abbrev Blk (F : FTy → Type) [FloatOps F] : Type := S256x1024.Idx → Elt F .f32

variable (m : (ℓ : Loc nD τ sig) → Buf (Elt F) ℓ)

/-- Device `d`'s own rows. -/
def xin (d : Dev nD) : Arr F := m ((d : Thread nD τ).loc main_arg0)

/-- The chunk an element lies in. -/
def chunkOf (i : S16384x1024.Idx) : Fin 64 := Fin.ofNat 64 ((i (0 : Fin 2)).val / 256)

/-- What lands on device `d`: each chunk from its device of origin. -/
def land (d : Dev nD) : Arr F := fun i => xin m (origin d (chunkOf i)) i

/-- The result on device `d`: its own rows plus those that landed. -/
def res (d : Dev nD) : Arr F := addf (F := F) (s := S16384x1024) (xin m d) (land m d)

/-! ## Chunks -/

section Chunks

omit [FloatOps F]

theorem rowsRect_mem {n : Fin 64} {i : S16384x1024.Idx} (h : i ∈ (rowsRect n).set) : chunkOf i = n := by
  obtain ⟨j, hj, e⟩ := (rowsRect n).mem_set.mp h (0 : Fin 2)
  have hj' : j < 256 := hj
  have e' : (i (0 : Fin 2)).val = 256 * n.val + 1 * j := e
  unfold chunkOf
  apply Fin.ext
  simp only [Fin.ofNat, e']
  omega

theorem mem_rowsRect (i : S16384x1024.Idx) : i ∈ (rowsRect (chunkOf i)).set := by
  refine (rowsRect (chunkOf i)).mem_set.mpr fun a => ?_
  have h0 : (i (0 : Fin 2)).val < 16384 := (i (0 : Fin 2)).isLt
  match a with
  | ⟨0, _⟩ =>
    refine ⟨(i (0 : Fin 2)).val % 256, Nat.mod_lt _ (by decide), ?_⟩
    show (i (0 : Fin 2)).val = 256 * ((i (0 : Fin 2)).val / 256 % 64) + 1 * ((i (0 : Fin 2)).val % 256)
    omega
  | ⟨1, _⟩ =>
    refine ⟨(i (1 : Fin 2)).val, (i (1 : Fin 2)).isLt, ?_⟩
    show (i (1 : Fin 2)).val = 0 + 1 * (i (1 : Fin 2)).val
    omega

theorem rowsRect_disjoint (n k : Fin 64) (h : n ≠ k) : Disjoint (rowsRect n).set (rowsRect k).set :=
  Finset.disjoint_left.mpr fun _ hi hj => h ((rowsRect_mem hi).symm.trans (rowsRect_mem hj))

theorem rowsRect_cover : (Finset.univ : Finset (Fin 64)).biUnion (fun n => (rowsRect n).set) = Finset.univ :=
  Finset.eq_univ_iff_forall.mpr fun i => Finset.mem_biUnion.mpr ⟨chunkOf i, Finset.mem_univ _, mem_rowsRect i⟩

/-- The elements of a chunk of a whole array. -/
theorem xset (n : Fin 64) : (rows xM n).view.set = (rowsRect n).set :=
  (View.set_slice _ _).trans Finset.map_refl
theorem oset (n : Fin 64) : (rows oM n).view.set = (rowsRect n).set :=
  (View.set_slice _ _).trans Finset.map_refl
theorem rset (n : Fin 64) : (rows rM n).view.set = (rowsRect n).set :=
  (View.set_slice _ _).trans Finset.map_refl

end Chunks

/-- The credit of a chunk's copy. -/
abbrev N : Nat := (rows rM 0).view.dmaCredit

theorem N_pos : 0 < N := View.dmaCredit_pos _ (by decide)
theorem creditX (n : Fin 64) : (rows xM n).view.dmaCredit = N := rfl
theorem creditO (n : Fin 64) : (rows oM n).view.dmaCredit = N := rfl
theorem creditR (n : Fin 64) : (rows rM n).view.dmaCredit = N := rfl
theorem creditA (s : Fin 2) : (slotM aM s).view.dmaCredit = N := rfl
theorem creditB (s : Fin 2) : (slotM bM s).view.dmaCredit = N := rfl

/-! ## Reading and writing chunks -/

/-- A chunk written with what the same chunk of `g` reads holds `g`. -/
theorem writeR (n : Fin 64) (f g : Arr F) :
    ∀ i ∈ (rows rM n).view.set, (rows rM n).view.write (Elt F) f ((rows rM n).view.read (Elt F) g) Finset.univ i = g i := fun i hi =>
  (congrFun (View.write_read_eq_piecewise (Val := Elt F) (v := (rows rM n).view) f g Finset.univ) i).trans
    (Finset.piecewise_eq_of_mem _ _ _ hi)

theorem writeO (n : Fin 64) (f g : Arr F) :
    ∀ i ∈ (rows oM n).view.set, (rows oM n).view.write (Elt F) f ((rows oM n).view.read (Elt F) g) Finset.univ i = g i := fun i hi =>
  (congrFun (View.write_read_eq_piecewise (Val := Elt F) (v := (rows oM n).view) f g Finset.univ) i).trans
    (Finset.piecewise_eq_of_mem _ _ _ hi)

/-- The rows of chunk `n` of an array. -/
def blk (n : Fin 64) (f : Arr F) : Blk F := (rows rM n).view.read (Elt F) f

theorem readX (n : Fin 64) (f : Arr F) : (rows xM n).view.read (Elt F) f = blk n f := rfl
theorem readO (n : Fin 64) (f : Arr F) : (rows oM n).view.read (Elt F) f = blk n f := rfl

theorem blk_res (d : Dev nD) (n : Fin 64) :
    addf (F := F) (s := S256x1024) (φ := .f32) (blk n (xin m d)) (blk n (land m d)) = blk n (res m d) := rfl

/-- A y transfer lands the sender's own rows where they belong, -/
theorem land_y (j : Fin 22) (d : Dev nD) : ∀ i ∈ (rows rM (sc (.inl j) d)).view.set,
    land m (trD (.inl j) d) i = xin m d i := by
  intro i hi
  rw [rset] at hi
  unfold land
  rw [rowsRect_mem hi, origin_y]

/-- the others what landed on the sender. -/
theorem land_xz (j : Fin 21 ⊕ Fin 21) (d : Dev nD) : ∀ i ∈ (rows rM (sc (.inr j) d)).view.set,
    land m (trD (.inr j) d) i = land m d i := by
  intro i hi
  rw [rset] at hi
  unfold land
  rw [rowsRect_mem hi, origin_xz]

/-! ## Reading and writing slots -/

/-- A slot loaded through its buffer is what the slot reads. -/
theorem load_slotA (s : Fin 2) (f : S2x256x1024.Idx → Elt F .f32) :
    shapeCast S256x1024 (aM.view.readAt (Elt F) (slotRect s).toLoadRect f) shapeCasts_S1x256x1024_S256x1024
      = (slotM aM s).view.read (Elt F) f := rfl
theorem load_slotB (s : Fin 2) (f : S2x256x1024.Idx → Elt F .f32) :
    shapeCast S256x1024 (bM.view.readAt (Elt F) (slotRect s).toLoadRect f) shapeCasts_S1x256x1024_S256x1024
      = (slotM bM s).view.read (Elt F) f := rfl

/-- The slot's elements are those of its rectangle. -/
theorem slot_setA (s : Fin 2) : (slotM aM s).view.set = (slotRect s).set :=
  (View.set_reshape _ _).trans ((View.set_slice _ _).trans Finset.map_refl)
theorem slot_setB (s : Fin 2) : (slotM bM s).view.set = (slotRect s).set :=
  (View.set_reshape _ _).trans ((View.set_slice _ _).trans Finset.map_refl)

theorem slotRect_disjoint (s t : Fin 2) (h : s ≠ t) : Disjoint (slotRect s).set (slotRect t).set :=
  Rect.disjoint_of_axis _ _ (0 : Fin 3) fun j hj k hk e => by
    have hj' : j < 1 := hj
    have hk' : k < 1 := hk
    have e' : s.val + 1 * j = t.val + 1 * k := e
    exact h (Fin.ext (by omega))

theorem slotRect_cover : (Finset.univ : Finset (Fin 2)).biUnion (fun s => (slotRect s).set) = Finset.univ := by
  refine Finset.eq_univ_iff_forall.mpr fun i => Finset.mem_biUnion.mpr ⟨i (0 : Fin 3), Finset.mem_univ _, ?_⟩
  refine (slotRect _).mem_set.mpr fun a => ?_
  match a with
  | ⟨0, _⟩ => exact ⟨0, Nat.one_pos, rfl⟩
  | ⟨1, _⟩ => exact ⟨(i (1 : Fin 3)).val, (i (1 : Fin 3)).isLt, (show (i (1 : Fin 3)).val = 0 + 1 * (i (1 : Fin 3)).val by omega)⟩
  | ⟨2, _⟩ => exact ⟨(i (2 : Fin 3)).val, (i (2 : Fin 3)).isLt, (show (i (2 : Fin 3)).val = 0 + 1 * (i (2 : Fin 3)).val by omega)⟩

/-- A slot stored through its buffer reads what was stored. -/
theorem store_slotA (s : Fin 2) (f : S2x256x1024.Idx → Elt F .f32) (w : Blk F) :
    (slotM aM s).view.read (Elt F)
      ((aM.access (slotRect s)).write (Elt F) f (shapeCast S1x256x1024 w shapeCasts_S256x1024_S1x256x1024) Finset.univ) = w := by
  have h := View.read_write_univ (Val := Elt F) (v := aM.access (slotRect s)) f (shapeCast S1x256x1024 w shapeCasts_S256x1024_S1x256x1024)
  funext j
  refine (congrFun h (Shape.reshapeEquiv _ j)).trans ?_
  unfold shapeCast
  congr 1
  rw [Shape.reshapeEquiv_reshapeEquiv, Shape.reshapeEquiv_self]

end Cert.Allsum

end
-- ==== Proof.Ghost.lean ====
/-
# The protocol

Every device has one barrier cell, and per transfer a departure cell and a landing cell.

* The barrier cell of device `d` is signalled once by each of its three neighbours and waited on once, for 3. The signal of
  the neighbour in direction `j` hands over that neighbour's landing rows for the transfers `d` sends in direction `j`.
* The landing cell of transfer `t` on device `d` is credited by the copy of `t` arriving from `trD t d`, with the landed
  chunk; the step that works on that chunk waits for it.
* The departure cell of `t` is credited when the copy has read its source; the kernel waits for all of them at the end.

A wait is allowed when all that is still owed lies at higher levels: departures and local copies at 0, the barrier at 1,
the landing of `t` at 2 more than the number of steps begun before `t` is sent.
-/
module

public import proofs.«01_k».proof.Proof.Data
public import Idealize.ShloMosaic.Lib.Rounds
public import Idealize.ShloMosaic.Lib.Transfers
public import Idealize.ShloMosaic.Lib.Pipeline.Kit
public import Idealize.ShloMosaic.Lib.Pipeline.BigSepL
public import Idealize.ShloMosaic.Lib.Pipeline.Regions
public import Idealize.ShloMosaic.Lib.Tactic

@[expose] public section

noncomputable section

namespace Cert.Allsum

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Transfers

variable {F : FTy → Type} [FloatOps F]

/-! ## The algebra: the launch's, the protocol's, the local copies' -/

abbrev UB : Type := URounds (GSem nD τ sig) (Fin 3)
abbrev UU : Type := UR sig nD τ × UB × Counters

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER; infer_instance

/-- No loop variants are needed: the body is straight-line. -/
abbrev 𝒱₀ : Variants := Variants.none

variable (m : (ℓ : Loc nD τ sig) → Buf (Elt F) ℓ)

/-! ## Cells -/

abbrev barCell (d : Dev nD) : GSem nD τ sig := ((d : Thread nD τ), .reg barS)
abbrev sndCell (d : Dev nD) (t : Tr) : GSem nD τ sig := ((d : Thread nD τ), .dma (sndS t))
abbrev rcvCell (d : Dev nD) (t : Tr) : GSem nD τ sig := ((d : Thread nD τ), .dma (rcvS t))

/-! ## Payloads -/

/-- Device `d` holds the elements of `M` at share `q` and contents `f`. -/
abbrev held {sp : Space} {s : Shape} {e : EltTy} (M : Memref sig .tc sp s e) (d : Dev nD) (q : PosShare TreeShare)
    (f : Buf (Elt F) (M.view.loc (d : Thread nD τ))) : sProp 𝕄 :=
  M.view.loc (d : Thread nD τ) ↦[M.view.set]{q} f

theorem held_storable {sp : Space} {s : Shape} {e : EltTy} (M : Memref sig .tc sp s e) (d : Dev nD) (q : PosShare TreeShare)
    (f : Buf (Elt F) (M.view.loc (d : Thread nD τ))) : BI.Storable (upEmb : UEmb _ 𝕄) (held (F := F) M d q f) := inferInstance

/-- The same at the full share and some contents. -/
abbrev heldAny {sp : Space} {s : Shape} {e : EltTy} (M : Memref sig .tc sp s e) (d : Dev nD) : sProp 𝕄 :=
  iprop(∃ f, held (F := F) M d fullShare f)

/-- The transfers in direction `j`. -/
def dirs (j : Fin 3) : List Tr :=
  match j with
  | 0 => (List.range 22).map trY
  | 1 => (List.range 21).map trX
  | 2 => (List.range 21).map trZ

theorem trs_dirs : trs = dirs 0 ++ (dirs 1 ++ dirs 2) := rfl

theorem trD_dirs (j : Fin 3) (d : Dev nD) : ∀ t ∈ dirs j, trD t d = nb j d := by
  have h : ∀ j, ∀ t ∈ dirs j, trJ t = j := by decide +kernel
  intro t ht
  rw [trD_eq, h j t ht]

/-- What the neighbour of `d` in direction `j` hands over: its landing rows for `d`'s transfers that way. -/
def barPay (d : Dev nD) (j : Fin 3) : sProp 𝕄 := bigSepL (dirs j) fun t => heldAny (F := F) (rows rM (sc t d)) (nb j d)

/-- What lands. -/
def rcvPay (d : Dev nD) (t : Tr) : sProp 𝕄 := held (F := F) (rows rM (rc t d)) d fullShare (land m d)

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => rw [bigSepL_nil]; exact (inferInstance : BI.Storable (upEmb : UEmb _ 𝕄) iprop(emp))
  | cons a l ih => rw [bigSepL_cons]; exact (inferInstance : BI.Storable (upEmb : UEmb _ 𝕄) iprop(Φ a ∗ bigSepL l Φ))

instance barPay_storable (d : Dev nD) (j : Fin 3) : BI.Storable (upEmb : UEmb _ 𝕄) (barPay (F := F) d j) := by
  unfold barPay; infer_instance
instance rcvPay_storable (d : Dev nD) (t : Tr) : BI.Storable (upEmb : UEmb _ 𝕄) (rcvPay m d t) := by
  exact held_storable (rows rM (rc t d)) d fullShare (land m d)

/-! ## The schedule: one round -/

def sched : Rounds.Schedule (GSem nD τ sig) (Fin 3) 𝕄 where
  duties g r := if r = 0 ∧ g.1.2 = .tc then
      (if g.2 = .reg barS then Finset.univ else if (asRcv g.2).isSome ∨ (asSnd g.2).isSome then {0} else ∅)
    else ∅
  unitless _ := False
  amount g _ _ := if g.2 = .reg barS then 1 else N
  payload g _ j := if g.2 = .reg barS then barPay g.1.1 j else (asRcv g.2).elim iprop(emp) (rcvPay m g.1.1)
  amount_pos g _ _ _ := by
    by_cases h : g.2 = .reg barS
    · rw [if_pos h]; exact Nat.one_pos
    · rw [if_neg h]; exact N_pos

instance sched_storable (g : GSem nD τ sig) (r : ℕ) (j : Fin 3) :
    BI.Storable (upEmb : UEmb _ 𝕄) ((sched m).payload g r j) := by
  show BI.Storable upEmb (if g.2 = .reg barS then barPay g.1.1 j else (asRcv g.2).elim iprop(emp) (rcvPay m g.1.1))
  split
  · infer_instance
  · cases asRcv g.2 <;> (simp only [Option.elim]; infer_instance)

theorem snd_ne_bar (t : Tr) : (SemLoc.dma (sndS t) : SemLoc sig) ≠ .reg barS := fun h => by cases h
theorem rcv_ne_bar (t : Tr) : (SemLoc.dma (rcvS t) : SemLoc sig) ≠ .reg barS := fun h => by cases h

section Sched
variable (d : Dev nD) (t : Tr)

theorem duties_bar : (sched m).duties (barCell d) 0 = Finset.univ := by
  dsimp only [sched]; rw [if_pos ⟨rfl, rfl⟩, if_pos rfl]
theorem duties_snd : (sched m).duties (sndCell d t) 0 = {0} := by
  dsimp only [sched]; rw [if_pos ⟨rfl, rfl⟩, if_neg (snd_ne_bar t), if_pos (.inr (by rw [asSnd_snd]; rfl))]
theorem duties_rcv : (sched m).duties (rcvCell d t) 0 = {0} := by
  dsimp only [sched]; rw [if_pos ⟨rfl, rfl⟩, if_neg (rcv_ne_bar t), if_pos (.inl (by rw [asRcv_rcv]; rfl))]
theorem duties_later (g : GSem nD τ sig) : ∀ r, 1 ≤ r → (sched m).duties g r = ∅ :=
  fun r hr => by dsimp only [sched]; rw [if_neg fun h => by omega]

theorem amount_bar (j : Fin 3) : (sched m).amount (barCell d) 0 j = 1 := by dsimp only [sched]; exact if_pos rfl
theorem amount_snd (j : Fin 3) : (sched m).amount (sndCell d t) 0 j = N := by dsimp only [sched]; exact if_neg (snd_ne_bar t)
theorem amount_rcv (j : Fin 3) : (sched m).amount (rcvCell d t) 0 j = N := by dsimp only [sched]; exact if_neg (rcv_ne_bar t)

theorem expect_bar : (sched m).expect (barCell d) 0 = 3 := by
  unfold Schedule.expect Schedule.amountOf
  rw [duties_bar, Finset.sum_congr rfl fun j _ => amount_bar m d j]; rfl
theorem expect_snd : (sched m).expect (sndCell d t) 0 = N := by
  unfold Schedule.expect Schedule.amountOf; rw [duties_snd, Finset.sum_singleton, amount_snd]
theorem expect_rcv : (sched m).expect (rcvCell d t) 0 = N := by
  unfold Schedule.expect Schedule.amountOf; rw [duties_rcv, Finset.sum_singleton, amount_rcv]

theorem payload_bar (j : Fin 3) : (sched m).payload (barCell d) 0 j = barPay d j := by dsimp only [sched]; exact if_pos rfl
theorem payload_snd (j : Fin 3) : (sched m).payload (sndCell d t) 0 j = iprop(emp) := by
  dsimp only [sched]; rw [if_neg (snd_ne_bar t), asRcv_snd]; rfl
theorem payload_rcv (j : Fin 3) : (sched m).payload (rcvCell d t) 0 j = rcvPay m d t := by
  dsimp only [sched]; rw [if_neg (rcv_ne_bar t), asRcv_rcv]; rfl

theorem rest_bar : bigSep ((sched m).duties (barCell d) 0 \ ∅) (fun j => (sched m).payload (barCell d) 0 j)
    = iprop(barPay d 0 ∗ barPay d 1 ∗ barPay d 2) := by
  rw [Finset.sdiff_empty, duties_bar, bigSep_univ_eq_bigSepL [0, 1, 2] (by decide) (by decide)]
  simp only [payload_bar]; rfl
theorem rest_rcv : bigSep ((sched m).duties (rcvCell d t) 0 \ ∅) (fun j => (sched m).payload (rcvCell d t) 0 j) = rcvPay m d t := by
  rw [Finset.sdiff_empty, duties_rcv, bigSep_singleton, payload_rcv]

end Sched

/-! ## What is owed, and the levels -/

/-- The landing credits owed for the transfers of a list still to be sent. -/
def dues (d : Dev nD) : List Tr → CellTallies nD τ sig Unit
  | [] => 0
  | t :: l => dues d l + tallyAt (rcvCell (trD t d) t) () N

theorem dues_append (d : Dev nD) (l₁ l₂ : List Tr) : dues d (l₁ ++ l₂) = dues d l₂ + dues d l₁ := by
  induction l₁ with
  | nil => exact (add_zero _).symm
  | cons t l ih => rw [List.cons_append, dues, dues, ih, add_assoc]

/-- What a device owes after its signals: all its transfers. -/
def O₁ (d : Dev nD) : CellTallies nD τ sig Unit := dues d ((List.range 22).map trY ++ fwd (List.range 64))
/-- What it owes at launch: its signals besides. -/
def O₀ (d : Dev nD) : CellTallies nD τ sig Unit :=
  O₁ d + tallyAt (barCell (nb 2 d)) () 1 + tallyAt (barCell (nb 1 d)) () 1 + tallyAt (barCell (nb 0 d)) () 1

def L (g : GSem nD τ sig) : Finset Unit := if g.1.2 = .tc then {()} else ∅
def lv (g : GSem nD τ sig) (_ : Unit) : ℕ := if g.2 = .reg barS then 1 else (asRcv g.2).elim 0 fun t => 2 + trL t

theorem L_of_ne (g : GSem nD τ sig) (h : g.1.2 ≠ .tc) : L g = ∅ := if_neg h
theorem L_tc (d : Dev nD) (s : SemLoc sig) : L ((d : Thread nD τ), s) = {()} := if_pos rfl

theorem lv_bar (d : Dev nD) : lv (barCell d) () = 1 := if_pos rfl
theorem lv_rcv (d : Dev nD) (t : Tr) : lv (rcvCell d t) () = 2 + trL t := by
  unfold lv; rw [if_neg (rcv_ne_bar t), asRcv_rcv]; rfl
theorem lv_snd (d : Dev nD) (t : Tr) : lv (sndCell d t) () = 0 := by
  unfold lv; rw [if_neg (snd_ne_bar t), asRcv_snd]; rfl
theorem lv_ld (d : Dev nD) (j : Fin 4) : lv ((d : Thread nD τ), .dma (ldS j)) () = 0 := by
  unfold lv; rw [if_neg (fun h => by cases h), asRcv_ld]; rfl
theorem lv_st (d : Dev nD) (s : Fin 2) : lv ((d : Thread nD τ), .dma (stS s)) () = 0 := by
  unfold lv; rw [if_neg (fun h => by cases h), asRcv_st]; rfl

/-- All that `O` owes is owed to cells of level above `n`. -/
def Above (n : ℕ) (O : CellTallies nD τ sig Unit) : Prop := ∀ g u, 0 < O g u → g.1.2 = .tc ∧ n < lv g u

theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

theorem Above.zero (n : ℕ) : Above n 0 := fun g u h => absurd h (Nat.lt_irrefl 0)

theorem Above.tally {n : ℕ} (d : Dev nD) (s : SemLoc sig) (k : ℕ) (h : n < lv ((d : Thread nD τ), s) ()) :
    Above n (tallyAt ((d : Thread nD τ), s) () k) := by
  intro g u hg
  rw [tallyAt_apply] at hg
  by_cases e : g = ((d : Thread nD τ), s) ∧ u = ()
  · rw [e.1]; exact ⟨rfl, h⟩
  · rw [if_neg e] at hg; exact absurd hg (Nat.lt_irrefl 0)

theorem Above.mono {n k : ℕ} {O : CellTallies nD τ sig Unit} (h : Above k O) (hn : n ≤ k) : Above n O :=
  fun g u hg => ⟨(h g u hg).1, Nat.lt_of_le_of_lt hn (h g u hg).2⟩

theorem above_dues (d : Dev nD) {n : ℕ} (l : List Tr) (h : ∀ t ∈ l, n < 2 + trL t) : Above n (dues d l) := by
  induction l with
  | nil => exact Above.zero n
  | cons t l ih =>
    refine Above.add (ih fun t' ht' => h t' (List.mem_cons_of_mem _ ht')) (Above.tally _ _ _ ?_)
    rw [lv_rcv]; exact h t List.mem_cons_self

/-- A wait below everything owed is allowed. -/
theorem mayWait_of {n : ℕ} (d : Dev nD) (s : SemLoc sig) (O : CellTallies nD τ sig Unit) (hs : lv ((d : Thread nD τ), s) () ≤ n)
    (hO : Above n O) : (levAts L lv : sProp 𝕄) ⊢ MayWait (d : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- What is owed once steps before `j` are done. -/
theorem above_fwd (d : Dev nD) (j n : ℕ) (h : j + n ≤ 64) : Above (2 + j) (dues d (fwd (List.range' j n))) := by
  refine above_dues d _ fun t ht => ?_
  obtain ⟨i, hi, ht⟩ := List.mem_flatMap.mp ht
  obtain ⟨k, hk, rfl⟩ := List.mem_range'.mp hi
  rw [trL_stS _ (by omega) t ht]; omega

theorem above_O₁ (d : Dev nD) : Above 1 (O₁ d) := above_dues d _ fun t _ => by omega

theorem above_O₀ (d : Dev nD) : Above 0 (O₀ d) := by
  have hb : ∀ e : Dev nD, Above 0 (tallyAt (barCell e) () 1) := fun e => Above.tally _ _ _ (by rw [lv_bar]; exact Nat.one_pos)
  exact ((((above_O₁ d).mono (Nat.zero_le 1)).add (hb _)).add (hb _)).add (hb _)

/-! ## The invariants -/

/-- A device's protocol cells: its barrier, its departures, its landings. -/
abbrev CI : Type := Option (Tr ⊕ Tr)
instance decEqTr : DecidableEq Tr := inferInstance
instance decEqCI : DecidableEq CI := inferInstance
def csem : CI → SemLoc sig
  | none => .reg barS
  | some (.inl t) => .dma (sndS t)
  | some (.inr t) => .dma (rcvS t)
abbrev kcell (ck : Dev nD × CI) : GSem nD τ sig := ((ck.1 : Thread nD τ), csem ck.2)

/-- Every protocol cell has its invariant and has reached its round. -/
def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (sched m) (K ck) (kcell ck) := by
  have h : (bigSep Finset.univ fun ck : Dev nD × CI => cellInv ER (sched m) (K ck) (kcell ck))
      ⊢ (cellInv ER (sched m) (K ck) (kcell ck) : sProp 𝕄) := bigSep_elim (Finset.mem_univ ck)
  unfold records
  iintro ⟨H, -⟩
  iapply h $$ H
theorem reached_at (K : Dev nD × CI → ℕ) (ck : Dev nD × CI) : records m K ⊢ reached ER (kcell ck) 0 := by
  have h : (bigSep Finset.univ fun ck : Dev nD × CI => reached ER (kcell ck) 0)
      ⊢ (reached ER (kcell ck) 0 : sProp 𝕄) := bigSep_elim (Finset.mem_univ ck)
  unfold records
  iintro ⟨-, H⟩
  iapply h $$ H

end Cert.Allsum

end
-- ==== Proof.Steps.lean ====
/-
# The steps of the body

One rule per step of the kernel's text, each with the continuation left open: from what the step uses and what follows from
what it returns, the step may be run.
-/
module

public import proofs.«01_k».proof.Proof.Ghost

@[expose] public section

noncomputable section

namespace Cert.Allsum

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (d : Dev nD)

/-- Running `p` on device `d`, then `Q`. -/
abbrev runs (p : P F) (Q : PUnit → sProp 𝕄) : sProp 𝕄 := wp frame (wpE (defs₀ (F := F)) 𝒱₀ (d : Thread nD τ) none) Set.univ p Q

/-- Device `d` owes `O`. -/
def owing (O : CellTallies nD τ sig Unit) : sProp 𝕄 := iprop(∃ W, owes (d : Thread nD τ) O W)

/-- What every step may use: the invariants and the levels. -/
def ctx : sProp 𝕄 := iprop(records m K ∗ levAts L lv)

instance ctx_persistent : BI.Persistent (ctx m K) := by unfold ctx; infer_instance

omit [FloatOps F] in
/-- Any assertion may be dropped. -/
theorem to_emp (P : sProp 𝕄) : P ⊢ iprop(emp) := by
  iintro -; iempintro

/-! ## Transfers -/

/-- What sending `t` uses besides its source: the right to pay both its cells, and the rows it lands in. -/
def sendRes (t : Tr) : sProp 𝕄 :=
  iprop(dutyTok ER (sndCell d t) 0 0 ∗ dutyTok ER (rcvCell (trD t d) t) 0 0 ∗ heldAny (F := F) (rows rM (sc t d)) (trD t d))

/-- Some share of the chunk transfer `t` reads. -/
def srcOf : Tr → sProp 𝕄
  | .inl j => iprop(∃ q, held (F := F) (rows xM (sc (.inl j) d)) d q (xin m d))
  | .inr j => iprop(∃ q, held (F := F) (rows rM (sc (.inr j) d)) d q (land m d))

theorem wp_send_from (t : Tr) (M : Hbm) (q : PosShare TreeShare) (fs : Buf (Elt F) ((rows M (sc t d)).view.loc (d : Thread nD τ)))
    (h : ∀ fd : Arr F, ∀ i ∈ (rows rM (sc t d)).view.set,
      (rows rM (sc t d)).view.write (Elt F) fd ((rows M (sc t d)).view.read (Elt F) fs) Finset.univ i = land m (trD t d) i)
    (O : CellTallies nD τ sig Unit) (Q : PUnit → sProp 𝕄)
    {hsrc : (rows M (sc t d)).view.WordExact} {hdst : (rows rM (sc t d)).view.WordExact}
    {hsc : (rows rM (sc t d)).view.ref.isScScratch = false}
    {hsem : DmaTarget.Typed (nD := nD) .hbm (.dma (rcvS t)) (.remote (Dev.tc (trD t d)) (rows rM (sc t d)) (.dma (sndS t)) hsc)} :
    iprop(ctx m K ∗ held (F := F) (rows M (sc t d)) d q fs ∗ sendRes d t ∗ owing d (O + tallyAt (rcvCell (trD t d) t) () N)
        ∗ ((cred (tallyAt (sndCell d t) () N) ∗ owing d O) -∗ Q ⟨⟩))
      ⊢ runs d (Prog.lift (.enqueueDma (rows M (sc t d)) (.remote (Dev.tc (trD t d)) (rows rM (sc t d)) (.dma (sndS t)) hsc)
          (.dma (rcvS t)) hsrc hdst hsem)) Q := by
  unfold ctx sendRes owing runs
  simp only [Prog.lift]
  iintro ⟨⟨#HR, -⟩, Hs, ⟨Ht, Ht', %fd, Hd⟩, ⟨%W, HO⟩, HQ⟩
  iapply (Rounds.wp_send_pointsTo 𝒱₀ ER (sched m) (d : Thread nD τ) none (c' := (trD t d : Thread nD τ))
      (κ₁ := K (d, some (.inl t))) (κ₂ := K (trD t d, some (.inr t))) (r₁ := 0) (r₂ := 0) (d₁ := 0) (d₂ := 0) (fd := fd)
      (by rw [duties_snd]; exact Finset.mem_singleton_self _) (by rw [duties_rcv]; exact Finset.mem_singleton_self _)
      () () N rfl (amount_snd m d t 0) (amount_rcv m (trD t d) t 0) O rfl (W := W)
      (by rw [payload_snd]; exact to_emp _)
      (by
        rw [payload_rcv, rcvPay, rc, trD_trD]
        exact Entails.of_eq (pointsTo_congr (h fd)))) $$ [Hs Ht Ht' Hd HO]
  · isplitr; · iapply (inv_at m K (d, some (.inl t))); iexact HR
    isplitr; · iapply (inv_at m K (trD t d, some (.inr t))); iexact HR
    isplitl [Hs]; · iexact Hs
    isplitl [Hd]; · iexact Hd
    isplitl [HO]; · iexact HO
    isplitl [Ht]; · iexact Ht
    isplitr; · iapply (reached_at m K (d, some (.inl t))); iexact HR
    isplitl [Ht']; · iexact Ht'
    iapply (reached_at m K (trD t d, some (.inr t))); iexact HR
  iintro ⟨Hc, HO⟩
  rw [wp_ret]; imodintro
  iapply HQ
  isplitl [Hc]; · iexact Hc
  iexists W; iexact HO

/-- Transfer `t` started: the credit of its departure, and one landing less owed. -/
theorem wp_send (t : Tr) (O : CellTallies nD τ sig Unit) (Q : PUnit → sProp 𝕄) :
    iprop(ctx m K ∗ srcOf m d t ∗ sendRes d t ∗ owing d (O + tallyAt (rcvCell (trD t d) t) () N)
        ∗ ((cred (tallyAt (sndCell d t) () N) ∗ owing d O) -∗ Q ⟨⟩))
      ⊢ runs d (send d t) Q := by
  simp only [send, rowsQ_eq]
  match t with
  | .inl j =>
    unfold srcOf
    iintro ⟨Hc, ⟨%q, Hs⟩, H⟩
    iapply (wp_send_from m K d (.inl j) xM q (xin m d)
      (fun fd i hi => (writeR _ fd (xin m d) i hi).trans (land_y m j d i hi).symm) O Q)
    isplitl [Hc]; · iexact Hc
    isplitl [Hs]; · iexact Hs
    iexact H
  | .inr j =>
    unfold srcOf
    iintro ⟨Hc, ⟨%q, Hs⟩, H⟩
    iapply (wp_send_from m K d (.inr j) rM q (land m d)
      (fun fd i hi => (writeR _ fd (land m d) i hi).trans (land_xz m j d i hi).symm) O Q)
    isplitl [Hc]; · iexact Hc
    isplitl [Hs]; · iexact Hs
    iexact H

/-- Transfer `t` landed here. -/
theorem wp_recv (t : Tr) (n : ℕ) (O : CellTallies nD τ sig Unit) (hO : Above n O) (hn : 2 + trL t ≤ n) (Q : PUnit → sProp 𝕄) :
    iprop(ctx m K ∗ (atPos ER (rcvCell d t) 0 ∅ 0 ∗ cred (tallyAt (rcvCell d t) () N)) ∗ owing d O
        ∗ ((atPos ER (rcvCell d t) (0 + 1) ∅ 0 ∗ rcvPay m d t ∗ owing d O) -∗ Q ⟨⟩))
      ⊢ runs d (recv d t) Q := by
  unfold ctx owing runs recv
  simp only [Prog.lift]
  iintro ⟨⟨#HR, #HL⟩, ⟨Ha, Hc⟩, ⟨%W, HO⟩, HQ⟩
  iapply (Rounds.wp_wait_rest_token 𝒱₀ ER (sched m) (d : Thread nD τ) none (κ := K (d, some (.inr t)))
      (wpE_waitDma2_eq 𝒱₀ (d : Thread nD τ) none Set.univ) (Set.mem_univ _) () (O := O) (W := W) (R := 0) (m := 0) (T := ∅)
      (by rw [Nat.zero_add, expect_rcv])) $$ [Ha Hc HO]
  · isplitr; · iapply (inv_at m K (d, some (.inr t))); iexact HR
    isplitl [Hc]; · iexact Hc
    isplitl [HO]; · iexact HO
    isplitr
    · iapply (mayWait_of d (.dma (rcvS t)) O (le_trans (le_of_eq (lv_rcv d t)) hn) hO); iexact HL
    iexact Ha
  iintro ⟨HO, Ha, -, Hp⟩
  ihave Hp := (Entails.of_eq (rest_rcv m d t)) $$ Hp
  rw [wp_ret]; imodintro
  iapply HQ
  isplitl [Ha]; · iexact Ha
  isplitl [Hp]; · iexact Hp
  iexists _; iexact HO

/-- Transfer `t` departed. -/
theorem wp_sent (t : Tr) (Q : PUnit → sProp 𝕄) :
    iprop(ctx m K ∗ (atPos ER (sndCell d t) 0 ∅ 0 ∗ cred (tallyAt (sndCell d t) () N)) ∗ owing d 0
        ∗ ((atPos ER (sndCell d t) (0 + 1) ∅ 0 ∗ owing d 0) -∗ Q ⟨⟩))
      ⊢ runs d (sent d t) Q := by
  unfold ctx owing runs sent
  simp only [Prog.lift]
  iintro ⟨⟨#HR, #HL⟩, ⟨Ha, Hc⟩, ⟨%W, HO⟩, HQ⟩
  iapply (Rounds.wp_wait_rest_token 𝒱₀ ER (sched m) (d : Thread nD τ) none (κ := K (d, some (.inl t)))
      (wpE_waitDma2_eq 𝒱₀ (d : Thread nD τ) none Set.univ) (Set.mem_univ _) () (O := 0) (W := W) (R := 0) (m := 0) (T := ∅)
      (by rw [Nat.zero_add, expect_snd])) $$ [Ha Hc HO]
  · isplitr; · iapply (inv_at m K (d, some (.inl t))); iexact HR
    isplitl [Hc]; · iexact Hc
    isplitl [HO]; · iexact HO
    isplitr; · rw [MayWait_zero]; iempintro
    iexact Ha
  iintro ⟨HO, Ha, -, -⟩
  rw [wp_ret]; imodintro
  iapply HQ
  isplitl [Ha]; · iexact Ha
  iexists _; iexact HO

/-! ## The addition -/

abbrev ldA (s : Fin 2) : DmaSem sig := ldS ⟨s.val, by omega⟩
abbrev ldB (s : Fin 2) : DmaSem sig := ldS ⟨2 + s.val, by omega⟩

/-- A counter of device `d` at zero. -/
abbrev idle (q : DmaSem sig) : sProp 𝕄 := semVal ((d : Thread nD τ), .dma q) 0

/-- A slot of a staging buffer reads `w`. -/
def loaded (b : Vmem) (s : Fin 2) (w : Blk F) : sProp 𝕄 :=
  iprop(∃ g, ⌜(slotM b s).view.read (Elt F) g = w⌝ ∗ held (F := F) (slotM b s) d fullShare g)

/-- A copy within the device under way. -/
abbrev under (q : DmaSem sig) (D : sProp 𝕄) : sProp 𝕄 := Flight EC (d : Thread nD τ) (.dma q) () N D

/-- Slot `s` free; chunk `n` being loaded into it; the sum for chunk `n` being stored out of it. -/
def Free (s : Fin 2) : sProp 𝕄 :=
  iprop(heldAny (F := F) (slotM aM s) d ∗ heldAny (F := F) (slotM bM s) d ∗ idle d (ldA s) ∗ idle d (ldB s) ∗ idle d (stS s))
def Loading (s : Fin 2) (n : Fin 64) : sProp 𝕄 :=
  iprop(under d (ldA s) (loaded d aM s (blk n (xin m d))) ∗ under d (ldB s) (loaded d bM s (blk n (land m d))) ∗ idle d (stS s))
def Storing (s : Fin 2) (n : Fin 64) : sProp 𝕄 :=
  iprop(under d (stS s) iprop(held (F := F) (rows oM n) d fullShare (res m d) ∗ heldAny (F := F) (slotM aM s) d)
    ∗ heldAny (F := F) (slotM bM s) d ∗ idle d (ldA s) ∗ idle d (ldB s))

theorem wp_fetch (s : Fin 2) (i : ℕ) (Q : PUnit → sProp 𝕄) :
    iprop(Free d s ∗ (∃ q, held (F := F) (rows xM (ic i d)) d q (xin m d)) ∗ (∃ q, held (F := F) (rows rM (ic i d)) d q (land m d))
        ∗ (Loading m d s (ic i d) -∗ Q ⟨⟩))
      ⊢ runs d (fetch d s i) Q := by
  unfold Free Loading runs fetch
  simp only [rowsQ_eq, Prog.lift, Prog.bind_op, Prog.bind_ret]
  iintro ⟨⟨⟨%fa, Ha⟩, ⟨%fb, Hb⟩, HzA, HzB, HzS⟩, ⟨%q, Hx⟩, ⟨%q', Hr⟩, HQ⟩
  iapply (wp_dmaLocal EC 𝒱₀ (d : Thread nD τ) none (src := rows xM (ic i d)) (dst := slotM aM s) (q := q) (fs := xin m d) (fd := fa)
    () N rfl N_pos (Finset.Subset.refl _)) $$ [Hx Ha HzA]
  · isplitl [Hx]; · iexact Hx
    isplitl [Ha]; · iexact Ha
    iexact HzA
  iintro HfA
  iapply (wp_dmaLocal EC 𝒱₀ (d : Thread nD τ) none (src := rows rM (ic i d)) (dst := slotM bM s) (q := q') (fs := land m d) (fd := fb)
    () N rfl N_pos (Finset.Subset.refl _)) $$ [Hr Hb HzB]
  · isplitl [Hr]; · iexact Hr
    isplitl [Hb]; · iexact Hb
    iexact HzB
  iintro HfB
  rw [wp_ret]; imodintro
  iapply HQ
  isplitl [HfA]
  · iapply (Flight_mono EC (d : Thread nD τ) (D' := loaded d aM s (blk (ic i d) (xin m d))) (by
      unfold loaded
      iintro ⟨H, -⟩
      iexists _
      isplitr [H]
      swap; · iexact H
      ipureintro
      exact View.read_write_univ _ _)) $$ HfA
  isplitl [HfB]
  · iapply (Flight_mono EC (d : Thread nD τ) (D' := loaded d bM s (blk (ic i d) (land m d))) (by
      unfold loaded
      iintro ⟨H, -⟩
      iexists _
      isplitr [H]
      swap; · iexact H
      ipureintro
      exact View.read_write_univ _ _)) $$ HfB
  iexact HzS

/-- A wait for a copy within the device. -/
theorem mayWait_local (q : DmaSem sig) (O : CellTallies nD τ sig Unit) (hq : lv ((d : Thread nD τ), .dma q) () = 0) (hO : Above 0 O) :
    (levAts L lv : sProp 𝕄) ⊢ MayWait (d : Thread nD τ) (.dma q) () O :=
  mayWait_of d (.dma q) O (le_of_eq hq) hO

theorem wp_stored (s : Fin 2) (i : ℕ) (O : CellTallies nD τ sig Unit) (hO : Above 0 O) (Q : PUnit → sProp 𝕄) :
    iprop(ctx m K ∗ Storing m d s (ic i d) ∗ owing d O
        ∗ ((Free d s ∗ held (F := F) (rows oM (ic i d)) d fullShare (res m d) ∗ owing d O) -∗ Q ⟨⟩))
      ⊢ runs d (stored d s i) Q := by
  unfold ctx owing runs stored Storing Free
  simp only [rowsQ_eq, Prog.lift]
  iintro ⟨⟨-, #HL⟩, ⟨Hf, Hb, HzA, HzB⟩, ⟨%W, HO⟩, HQ⟩
  iapply (wp_waitLocalO EC 𝒱₀ (d : Thread nD τ) none (dstw := rows oM (ic i d)) () (N := N) rfl (O := O) (W := W)) $$ [Hf HO]
  · isplitl [Hf]; · iexact Hf
    isplitl [HO]; · iexact HO
    iapply (mayWait_local d (stS s) O (lv_st d s) hO); iexact HL
  iintro ⟨⟨Ho, Ha⟩, HzS, HO⟩
  rw [wp_ret]; imodintro
  iapply HQ
  isplitl [Ha Hb HzA HzB HzS]
  · isplitl [Ha]; · iexact Ha
    isplitl [Hb]; · iexact Hb
    isplitl [HzA]; · iexact HzA
    isplitl [HzB]; · iexact HzB
    iexact HzS
  isplitl [Ho]; · iexact Ho
  iexists _; iexact HO

omit [FloatOps F] in
/-- A slot's elements are elements of its buffer. -/
theorem slot_whole (b : Vmem) (s : Fin 2) (g : Buf (Elt F) (b.view.loc (d : Thread nD τ))) :
    held (F := F) (slotM b s) d fullShare g = (b.view.loc (d : Thread nD τ) ↦[(slotM b s).view.set]{fullShare} g : sProp 𝕄) := rfl

omit [FloatOps F] in
/-- The slot accessed through its buffer. -/
theorem slot_onA (s : Fin 2) : aM.view.setOn (slotRect s).set ⊆ (slotM aM s).view.set := by
  rw [slot_setA]; exact le_of_eq Finset.map_refl
omit [FloatOps F] in
theorem slot_onB (s : Fin 2) : bM.view.setOn (slotRect s).set ⊆ (slotM bM s).view.set := by
  rw [slot_setB]; exact le_of_eq Finset.map_refl
omit [FloatOps F] in
theorem slot_acc (s : Fin 2) : (aM.access (slotRect s)).setOn Finset.univ ⊆ (slotM aM s).view.set := by
  rw [slot_setA]; exact le_of_eq ((View.set_slice _ _).trans Finset.map_refl)

omit K in
/-- The sum of two slots, stored over the first. -/
theorem sum_slot (s : Fin 2) (n : Fin 64) (ga gb : S2x256x1024.Idx → Elt F .f32)
    (ha : (slotM aM s).view.read (Elt F) ga = blk n (xin m d)) (hb : (slotM bM s).view.read (Elt F) gb = blk n (land m d)) :
    (slotM aM s).view.read (Elt F) ((aM.access (slotRect s)).write (Elt F) ga
      (sumOf (aM.view.readAt (Elt F) (slotRect s).toLoadRect ga) (bM.view.readAt (Elt F) (slotRect s).toLoadRect gb)) Finset.univ)
      = blk n (res m d) := by
  refine (store_slotA s ga _).trans ?_
  rw [load_slotA, load_slotB, ha, hb, blk_res]

omit K in
theorem sum_loaded (s : Fin 2) (n : Fin 64) (ga gb : S2x256x1024.Idx → Elt F .f32)
    (ha : (slotM aM s).view.read (Elt F) ga = blk n (xin m d)) (hb : (slotM bM s).view.read (Elt F) gb = blk n (land m d)) :
    ((aM.view.loc (d : Thread nD τ) ↦[(slotM aM s).view.set]{fullShare} ((aM.access (slotRect s)).write (Elt F) ga
      (sumOf (aM.view.readAt (Elt F) (slotRect s).toLoadRect ga) (bM.view.readAt (Elt F) (slotRect s).toLoadRect gb)) Finset.univ)) : sProp 𝕄)
      ⊢ loaded d aM s (blk n (res m d)) := by
  have h := sum_slot m d s n ga gb ha hb
  revert h
  generalize (aM.access (slotRect s)).write (Elt F) ga
      (sumOf (aM.view.readAt (Elt F) (slotRect s).toLoadRect ga) (bM.view.readAt (Elt F) (slotRect s).toLoadRect gb)) Finset.univ = g
  intro h
  unfold loaded
  iintro H
  iexists g
  isplitr; · ipureintro; exact h
  iapply (Entails.of_eq (slot_whole d aM s g).symm) $$ H

omit K in
/-- A chunk of the result written from a slot that reads it. -/
theorem out_stored (s : Fin 2) (n : Fin 64) (fo : Arr F) (g : Buf (Elt F) ((slotM aM s).view.loc (d : Thread nD τ)))
    (hg : (slotM aM s).view.read (Elt F) g = blk n (res m d)) :
    iprop(((rows oM n).view.loc (d : Thread nD τ) ↦[(rows oM n).view.set]{fullShare}
          ((rows oM n).view.write (Elt F) fo ((slotM aM s).view.read (Elt F) g) Finset.univ))
        ∗ held (F := F) (slotM aM s) d fullShare g)
      ⊢ (iprop(held (F := F) (rows oM n) d fullShare (res m d) ∗ heldAny (F := F) (slotM aM s) d) : sProp 𝕄) := by
  iintro ⟨H, Ha⟩
  isplitl [H]
  · rw [hg]
    iapply (Entails.of_eq (pointsTo_congr (writeO n fo (res m d)))) $$ H
  · iexists g; iexact Ha

theorem wp_combine (s : Fin 2) (i : ℕ) (O : CellTallies nD τ sig Unit) (hO : Above 0 O) (Q : PUnit → sProp 𝕄) :
    iprop(ctx m K ∗ Loading m d s (ic i d) ∗ heldAny (F := F) (rows oM (ic i d)) d ∗ owing d O
        ∗ ((Storing m d s (ic i d) ∗ owing d O) -∗ Q ⟨⟩))
      ⊢ runs d (combine d s i) Q := by
  unfold ctx owing runs combine Storing Loading
  simp only [rowsQ_eq, Prog.lift, Prog.bind_op, Prog.bind_ret]
  iintro ⟨⟨-, #HL⟩, ⟨HfA, HfB, HzS⟩, ⟨%fo, Ho⟩, ⟨%W, HO⟩, HQ⟩
  iapply (wp_waitLocalO EC 𝒱₀ (d : Thread nD τ) none (dstw := slotM aM s) (hsrc := View.wordExact_bits rfl)
    (hdst := (View.wordExact_bits rfl).reshape _ _) () (N := N) rfl (O := O) (W := W)) $$ [HfA HO]
  · isplitl [HfA]; · iexact HfA
    isplitl [HO]; · iexact HO
    iapply (mayWait_local d (ldA s) O (lv_ld d _) hO); iexact HL
  iintro ⟨Ha, HzA, HO⟩
  iapply (wp_waitLocalO EC 𝒱₀ (d : Thread nD τ) none (dstw := slotM bM s) (hsrc := View.wordExact_bits rfl)
    (hdst := (View.wordExact_bits rfl).reshape _ _) () (N := N) rfl (O := O)) $$ [HfB HO]
  · isplitl [HfB]; · iexact HfB
    isplitl [HO]; · iexact HO
    iapply (mayWait_local d (ldB s) O (lv_ld d _) hO); iexact HL
  iintro ⟨Hb, HzB, HO⟩
  unfold loaded
  icases Ha with ⟨%ga, %ha, Ha⟩
  icases Hb with ⟨%gb, %hb, Hb⟩
  ihave Ha := (Entails.of_eq (slot_whole d aM s ga)) $$ Ha
  ihave Hb := (Entails.of_eq (slot_whole d bM s gb)) $$ Hb
  iapply (wp_load 𝒱₀ (d : Thread nD τ) none Set.univ (m := aM) (r := (slotRect s).toLoadRect) (S := (slotM aM s).view.set) (f := ga)
    (slot_onA s)) $$ Ha; iintro Ha
  iapply (wp_load 𝒱₀ (d : Thread nD τ) none Set.univ (m := bM) (r := (slotRect s).toLoadRect) (S := (slotM bM s).view.set) (f := gb)
    (slot_onB s)) $$ Hb; iintro Hb
  iapply (wp_load 𝒱₀ (d : Thread nD τ) none Set.univ (m := aM) (r := (slotRect s).toLoadRect) (S := (slotM aM s).view.set) (f := ga)
    (slot_onA s)) $$ Ha; iintro Ha
  iapply (wp_store 𝒱₀ (d : Thread nD τ) none Set.univ (m := aM) (r := slotRect s) (Mk := Finset.univ) (S := (slotM aM s).view.set) (f := ga)
    (slot_acc s)) $$ Ha; iintro Ha
  ihave Ha := (sum_loaded m d s (ic i d) ga gb ha hb) $$ Ha
  unfold loaded
  icases Ha with ⟨%g, %hg, Ha⟩
  ihave Hb := (Entails.of_eq (slot_whole d bM s gb).symm) $$ Hb
  iapply (wp_dmaLocal EC 𝒱₀ (d : Thread nD τ) none (src := slotM aM s) (dst := rows oM (ic i d)) (q := fullShare) (fs := g) (fd := fo)
    () N rfl N_pos (Finset.Subset.refl _)) $$ [Ha Ho HzS]
  · isplitl [Ha]; · iexact Ha
    isplitl [Ho]; · iexact Ho
    iexact HzS
  iintro Hf
  rw [wp_ret]; imodintro
  iapply HQ
  isplitr [HO]
  swap; · iexists _; iexact HO
  isplitl [Hf]
  · iapply (Flight_mono EC (d : Thread nD τ) (D' := iprop(held (F := F) (rows oM (ic i d)) d fullShare (res m d) ∗ heldAny (F := F) (slotM aM s) d))
      (out_stored m d s (ic i d) fo g hg))  $$ Hf
  isplitl [Hb]; · iexists _; iexact Hb
  isplitl [HzA]; · iexact HzA
  iexact HzB

end Cert.Allsum

end
-- ==== Proof.Loop.lean ====
/-
# The body

The steps composed: a rule for a program run for each of a list, a rule for a loop, and by them the kernel's text, from all
it is given to all it leaves.
-/
module

public import proofs.«01_k».proof.Proof.Steps

@[expose] public section

noncomputable section

namespace Cert.Allsum

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Transfers

variable {F : FTy → Type} [FloatOps F]

local notation "𝕄" => MT nD τ sig Unit (Elt F) ℕ UU ℕ

/-! ## Chains over lists -/

section Lists

omit [FloatOps F]

variable {I J : Type}

theorem chain_nil (Φ : I → sProp 𝕄) : bigSepL [] Φ = iprop(emp) := rfl

theorem chain_sep (l : List I) (Φ Ψ : I → sProp 𝕄) :
    bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    have h : ∀ P₁ P₂ P₃ P₄ : sProp 𝕄, iprop((P₁ ∗ P₂) ∗ P₃ ∗ P₄) ⊢ iprop((P₁ ∗ P₃) ∗ P₂ ∗ P₄) := fun _ _ _ _ => by
      iintro ⟨⟨H1, H2⟩, H3, H4⟩
      isplitl [H1 H3]; · isplitl [H1] <;> iassumption
      isplitl [H2] <;> iassumption
    exact Entails.antisymm (h _ _ _ _) (h _ _ _ _)

theorem chain_perm [DecidableEq I] {l l' : List I} (h : l.Perm l') (hn : l.Nodup) (Φ : I → sProp 𝕄) :
    bigSepL l Φ = bigSepL l' Φ :=
  (bigSep_eq_bigSepL l hn Φ).symm.trans
    (bigSep_eq_bigSepL_of_eq l' (List.toFinset_eq_of_perm _ _ h) (h.nodup_iff.mp hn) Φ)

theorem chain_flat (g : I → List J) (l : List I) (Φ : J → sProp 𝕄) :
    bigSepL (l.flatMap g) Φ = bigSepL l fun i => bigSepL (g i) Φ := by
  induction l with
  | nil => rfl
  | cons i l ih => rw [List.flatMap_cons, bigSepL_append, bigSepL_cons', ih]

theorem chain_congr {l : List I} {Φ Ψ : I → sProp 𝕄} (h : ∀ i ∈ l, Φ i = Ψ i) : bigSepL l Φ = bigSepL l Ψ :=
  Entails.antisymm (bigSepL_mono fun i hi => Entails.of_eq (h i hi)) (bigSepL_mono fun i hi => Entails.of_eq (h i hi).symm)

end Lists

/-! ## Loops -/

section Loops

variable (d : Dev nD)

/-- A program run for each of a list, what it keeps depending on the rest of the list. -/
theorem wp_each {α : Type} (f : α → P F) (S : List α → sProp 𝕄) (R D : α → sProp 𝕄)
    (h : ∀ a l Q, iprop(S (a :: l) ∗ R a ∗ ((S l ∗ D a) -∗ Q ⟨⟩)) ⊢ runs d (f a) Q) (l : List α) (Q : PUnit → sProp 𝕄) :
    iprop(S l ∗ bigSepL l R ∗ ((S [] ∗ bigSepL l D) -∗ Q ⟨⟩)) ⊢ runs d (each f l) Q := by
  induction l generalizing Q with
  | nil =>
    iintro ⟨HS, -, HQ⟩
    unfold each runs
    rw [wp_ret]; imodintro
    iapply HQ
    isplitl [HS]; · iexact HS
    rw [chain_nil]; iempintro
  | cons a l ih =>
    unfold each runs
    rw [wp_bind, bigSepL_cons', bigSepL_cons']
    iintro ⟨HS, ⟨HR, HRs⟩, HQ⟩
    iapply (h a l _)
    isplitl [HS]; · iexact HS
    isplitl [HR]; · iexact HR
    iintro ⟨HS, HD⟩
    iapply (ih Q)
    isplitl [HS]; · iexact HS
    isplitl [HRs]; · iexact HRs
    iintro ⟨HS, HDs⟩
    iapply HQ
    isplitl [HS]; · iexact HS
    isplitl [HD] <;> iassumption

/-- A loop over consecutive numbers, what it keeps depending on the number. -/
theorem wp_loop (f : ℕ → P F) (S R D : ℕ → sProp 𝕄) (n j : ℕ)
    (h : ∀ i, i < j + n → ∀ Q, iprop(S i ∗ R i ∗ ((S (i + 1) ∗ D i) -∗ Q ⟨⟩)) ⊢ runs d (f i) Q) (Q : PUnit → sProp 𝕄) :
    iprop(S j ∗ bigSepL (List.range' j n) R ∗ ((S (j + n) ∗ bigSepL (List.range' j n) D) -∗ Q ⟨⟩))
      ⊢ runs d (each f (List.range' j n)) Q := by
  induction n generalizing j Q with
  | zero =>
    iintro ⟨HS, -, HQ⟩
    unfold runs
    rw [List.range'_zero]
    unfold each
    rw [wp_ret]; imodintro
    iapply HQ
    isplitl [HS]; · iexact HS
    rw [chain_nil]; iempintro
  | succ n ih =>
    rw [List.range'_succ]
    unfold each runs
    rw [wp_bind, bigSepL_cons', bigSepL_cons']
    iintro ⟨HS, ⟨HR, HRs⟩, HQ⟩
    iapply (h j (by omega) _)
    isplitl [HS]; · iexact HS
    isplitl [HR]; · iexact HR
    iintro ⟨HS, HD⟩
    iapply (ih (j + 1) (fun i hi => h i (by omega)) Q)
    isplitl [HS]; · iexact HS
    isplitl [HRs]; · iexact HRs
    rw [show j + 1 + n = j + (n + 1) by omega]
    iintro ⟨HS, HDs⟩
    iapply HQ
    isplitl [HS]; · iexact HS
    isplitl [HD] <;> iassumption

end Loops

variable (m : (ℓ : Loc nD τ sig) → Buf (Elt F) ℓ) (K : Dev nD × CI → ℕ) (d : Dev nD)

/-! ## Sending a list of transfers -/

theorem wp_sends (l : List Tr) (O : CellTallies nD τ sig Unit) (Q : PUnit → sProp 𝕄) :
    iprop((ctx m K ∗ owing d (O + dues d l)) ∗ bigSepL l (fun t => iprop(srcOf m d t ∗ sendRes d t))
        ∗ (((ctx m K ∗ owing d O) ∗ bigSepL l fun t => cred (tallyAt (sndCell d t) () N)) -∗ Q ⟨⟩))
      ⊢ runs d (each (send d) l) Q := by
  have h := wp_each d (send d) (fun l => iprop(ctx m K ∗ owing d (O + dues d l)))
    (fun t => iprop(srcOf m d t ∗ sendRes d t)) (fun t => cred (tallyAt (sndCell d t) () N)) (by
      intro t l Q
      rw [show dues d (t :: l) = dues d l + tallyAt (rcvCell (trD t d) t) () N from rfl, ← add_assoc]
      iintro ⟨⟨#Hc, HO⟩, ⟨Hs, Hr⟩, HQ⟩
      iapply (wp_send m K d t (O + dues d l) Q)
      isplitr; · iexact Hc
      isplitl [Hs]; · iexact Hs
      isplitl [Hr]; · iexact Hr
      isplitl [HO]; · iexact HO
      iintro ⟨Hd, HO⟩
      iapply HQ
      isplitl [HO]
      · isplitr; · iexact Hc
        iexact HO
      iexact Hd) l Q
  rw [show dues d [] = 0 from rfl, add_zero] at h
  exact h

/-- Some share of a chunk that has landed. -/
def got (n : Fin 64) : sProp 𝕄 := iprop(∃ q, held (F := F) (rows rM n) d q (land m d))

omit [FloatOps F] in
theorem share_split {sp : Space} {s : Shape} {e : EltTy} (M : Memref sig .tc sp s e) (q : PosShare TreeShare)
    (f : Buf (Elt F) (M.view.loc (d : Thread nD τ))) :
    held (F := F) M d q f ⊢ iprop(held (F := F) M d q.left f ∗ held (F := F) M d q.right f) :=
  (pointsTo_share (PosShare.mem_left_op_right q)).1

/-- A chunk that has landed can be passed on any number of times and kept. -/
theorem got_split (n : Fin 64) (l : List Tr) (h : ∀ t ∈ l, t.isRight = true ∧ sc t d = n) :
    got m d n ⊢ iprop(got m d n ∗ bigSepL l (srcOf m d)) := by
  induction l with
  | nil =>
    iintro H
    isplitl [H]; · iexact H
    rw [chain_nil]; iempintro
  | cons t l ih =>
    have hs : iprop(∃ q, held (F := F) (rows rM n) d q (land m d)) ⊢ srcOf m d t := by
      match t, h t List.mem_cons_self with
      | .inr j, ⟨_, e⟩ => subst e; exact Entails.refl _
    rw [bigSepL_cons']
    refine (ih fun t ht => h t (List.mem_cons_of_mem _ ht)).trans ?_
    unfold got
    iintro ⟨⟨%q, H⟩, Hl⟩
    ihave H := (share_split d (rows rM n) q (land m d)) $$ H
    icases H with ⟨H1, H2⟩
    isplitl [H1]; · iexists _; iexact H1
    isplitl [H2]
    · iapply hs; iexists _; iexact H2
    iexact Hl

/-! ## A step -/

/-- The chunk of the result of step `i`, done. -/
def done (i : ℕ) : sProp 𝕄 := held (F := F) (rows oM (ic i d)) d fullShare (res m d)

/-- What the two slots hold, and the chunks of the result, when `i` steps are done. -/
def slotsAt : ℕ → sProp 𝕄
  | 0 => iprop(Free d 0 ∗ Free d 1)
  | 1 => iprop(Loading m d 0 (ic 0 d) ∗ Free d 1 ∗ heldAny (F := F) (rows oM (ic 0 d)) d)
  | i + 2 => iprop(Storing m d (Fin.ofNat 2 i) (ic i d) ∗ Loading m d (Fin.ofNat 2 (i + 1)) (ic (i + 1) d)
      ∗ heldAny (F := F) (rows oM (ic (i + 1) d)) d
      ∗ bigSepL (List.range i) (done m d))

theorem slotsAt_two (i : ℕ) : slotsAt m d (i + 2) = iprop(Storing m d (Fin.ofNat 2 i) (ic i d)
    ∗ Loading m d (Fin.ofNat 2 (i + 1)) (ic (i + 1) d) ∗ heldAny (F := F) (rows oM (ic (i + 1) d)) d
    ∗ bigSepL (List.range i) (done m d)) := rfl

theorem slotsAt_next (i : ℕ) : slotsAt m d (i + 2 + 1) = iprop(Storing m d (Fin.ofNat 2 (i + 1)) (ic (i + 1) d)
    ∗ Loading m d (Fin.ofNat 2 i) (ic (i + 2) d) ∗ heldAny (F := F) (rows oM (ic (i + 2) d)) d
    ∗ bigSepL (List.range i) (done m d) ∗ done m d i) := by
  have hp : Fin.ofNat 2 (i + 1 + 1) = Fin.ofNat 2 i := Fin.ext (by simp only [Fin.ofNat]; omega)
  have h := slotsAt_two m d (i + 1)
  rw [hp, List.range_succ, bigSepL_append] at h
  exact h

/-- What is left to do when `i` steps are done. -/
def left (i : ℕ) : CellTallies nD τ sig Unit := dues d (fwd (List.range' i (64 - i)))

theorem left_step (i : ℕ) (hi : i < 64) : left d i = left d (i + 1) + dues d (stS' i) := by
  unfold left
  rw [show 64 - i = (64 - (i + 1)) + 1 by omega, List.range'_succ]
  exact dues_append d (stS' i) (fwd (List.range' (i + 1) (64 - (i + 1))))

theorem above_left (i : ℕ) (hi : i ≤ 64) : Above (2 + i) (left d i) := above_fwd d i (64 - i) (by omega)

/-- What step `i` uses. -/
def stepRes (i : ℕ) : sProp 𝕄 :=
  iprop((atPos ER (rcvCell d (stR i)) 0 ∅ 0 ∗ cred (tallyAt (rcvCell d (stR i)) () N))
    ∗ bigSepL (stS' i) (sendRes d)
    ∗ (∃ q, held (F := F) (rows xM (ic i d)) d q (xin m d)) ∗ heldAny (F := F) (rows oM (ic i d)) d)

/-- What it returns. -/
def stepDone (i : ℕ) : sProp 𝕄 :=
  iprop(atPos ER (rcvCell d (stR i)) (0 + 1) ∅ 0 ∗ bigSepL (stS' i) fun t => cred (tallyAt (sndCell d t) () N))

/-- The addition at step `i`. -/
theorem wp_add (i : ℕ) (O : CellTallies nD τ sig Unit) (hO : Above 0 O) (Q : PUnit → sProp 𝕄) :
    iprop(ctx m K ∗ slotsAt m d i ∗ owing d O ∗ (∃ q, held (F := F) (rows xM (ic i d)) d q (xin m d)) ∗ got m d (ic i d)
        ∗ heldAny (F := F) (rows oM (ic i d)) d ∗ ((slotsAt m d (i + 1) ∗ owing d O) -∗ Q ⟨⟩))
      ⊢ runs d (add d i) Q := by
  match i with
  | 0 =>
    unfold slotsAt got
    iintro ⟨-, ⟨H0, H1⟩, HO, Hx, Hr, Ho, HQ⟩
    iapply (wp_fetch m d 0 0 Q)
    isplitl [H0]; · iexact H0
    isplitl [Hx]; · iexact Hx
    isplitl [Hr]; · iexact Hr
    iintro H0
    iapply HQ
    isplitr [HO]
    swap; · iexact HO
    isplitl [H0]; · iexact H0
    isplitl [H1]; · iexact H1
    iexact Ho
  | 1 =>
    unfold slotsAt got add runs
    rw [wp_bind]
    iintro ⟨#Hc, ⟨H0, H1, Ho0⟩, HO, Hx, Hr, Ho, HQ⟩
    iapply (wp_fetch m d 1 1 _)
    isplitl [H1]; · iexact H1
    isplitl [Hx]; · iexact Hx
    isplitl [Hr]; · iexact Hr
    iintro H1
    iapply (wp_combine m K d 0 0 O hO Q)
    isplitr; · iexact Hc
    isplitl [H0]; · iexact H0
    isplitl [Ho0]; · iexact Ho0
    isplitl [HO]; · iexact HO
    iintro ⟨H0, HO⟩
    iapply HQ
    isplitr [HO]
    swap; · iexact HO
    isplitl [H0]; · iexact H0
    isplitl [H1]; · iexact H1
    isplitl [Ho]; · iexact Ho
    rw [List.range_zero, chain_nil]; iempintro
  | i + 2 =>
    rw [slotsAt_two, slotsAt_next]
    unfold got add runs
    rw [wp_bind, wp_bind]
    iintro ⟨#Hc, ⟨H0, H1, Ho1, Hd⟩, HO, Hx, Hr, Ho, HQ⟩
    iapply (wp_stored m K d (Fin.ofNat 2 i) i O hO _)
    isplitr; · iexact Hc
    isplitl [H0]; · iexact H0
    isplitl [HO]; · iexact HO
    iintro ⟨H0, Hdi, HO⟩
    iapply (wp_fetch m d (Fin.ofNat 2 i) (i + 2) _)
    isplitl [H0]; · iexact H0
    isplitl [Hx]; · iexact Hx
    isplitl [Hr]; · iexact Hr
    iintro H0
    iapply (wp_combine m K d (Fin.ofNat 2 (i + 1)) (i + 1) O hO Q)
    isplitr; · iexact Hc
    isplitl [H1]; · iexact H1
    isplitl [Ho1]; · iexact Ho1
    isplitl [HO]; · iexact HO
    iintro ⟨H1, HO⟩
    iapply HQ
    isplitr [HO]
    swap; · iexact HO
    isplitl [H1]; · iexact H1
    isplitl [H0]; · iexact H0
    isplitl [Ho]; · iexact Ho
    isplitl [Hd]; · iexact Hd
    iapply (show held (F := F) (rows oM (ic i d)) d fullShare (res m d) ⊢ done m d i from Entails.refl _) $$ Hdi

theorem stS_right (i : ℕ) (hi : i < 64) : ∀ t ∈ stS' i, t.isRight = true := by
  have h : ∀ i : Fin 64, ∀ t ∈ stS' i.val, t.isRight = true := by decide +kernel
  exact h ⟨i, hi⟩

theorem wp_step (i : ℕ) (hi : i < 64) (Q : PUnit → sProp 𝕄) :
    iprop((ctx m K ∗ slotsAt m d i ∗ owing d (left d i)) ∗ stepRes m d i
        ∗ (((ctx m K ∗ slotsAt m d (i + 1) ∗ owing d (left d (i + 1))) ∗ stepDone d i) -∗ Q ⟨⟩))
      ⊢ runs d (step d i) Q := by
  unfold stepRes stepDone step runs
  rw [wp_bind, wp_bind]
  iintro ⟨⟨#Hc, Hs, HO⟩, ⟨Hrc, Hsr, Hx, Ho⟩, HQ⟩
  iapply (wp_recv m K d (stR i) (2 + i) (left d i) (above_left d i (by omega)) (by have := trL_stR i hi; omega) _)
  isplitr; · iexact Hc
  isplitl [Hrc]; · iexact Hrc
  isplitl [HO]; · iexact HO
  iintro ⟨Ha, Hp, HO⟩
  have hg : rcvPay m d (stR i) ⊢ got m d (ic i d) := by
    rw [ic_stR i hi d]
    unfold rcvPay got
    iintro H
    iexists _; iexact H
  ihave Hp := hg $$ Hp
  ihave Hp := (got_split m d (ic i d) (stS' i) fun t ht => ⟨stS_right i hi t ht, sc_stS i hi d t ht⟩) $$ Hp
  icases Hp with ⟨Hg, Hsrc⟩
  rw [left_step d i hi]
  iapply (wp_sends m K d (stS' i) (left d (i + 1)) _)
  isplitl [HO]
  · isplitr; · iexact Hc
    iexact HO
  isplitl [Hsrc Hsr]
  · rw [chain_sep]
    isplitl [Hsrc] <;> iassumption
  iintro ⟨⟨-, HO⟩, Hcr⟩
  iapply (wp_add m K d i (left d (i + 1)) ((above_left d (i + 1) (by omega)).mono (by omega)) Q)
  isplitr; · iexact Hc
  isplitl [Hs]; · iexact Hs
  isplitl [HO]; · iexact HO
  isplitl [Hx]; · iexact Hx
  isplitl [Hg]; · iexact Hg
  isplitl [Ho]; · iexact Ho
  iintro ⟨Hs, HO⟩
  iapply HQ
  isplitr [Ha Hcr]
  · isplitr; · iexact Hc
    isplitl [Hs] <;> iassumption
  isplitl [Ha] <;> iassumption

end Cert.Allsum

end
-- ==== Proof.Body.lean ====
/-
# The whole body

The handshake, the transfers sent at the start, the 64 steps, and the waits at the end.
-/
module

public import proofs.«01_k».proof.Proof.Loop

@[expose] public section

noncomputable section

namespace Cert.Allsum

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ) (d : Dev nD)

/-! ## The handshake -/

/-- The signal to the neighbour in direction `j`: it is handed the rows its transfers land in. -/
theorem wp_barSignal (j : Fin 3) (O : CellTallies nD τ sig Unit) (Q : PUnit → sProp 𝕄) :
    iprop(ctx m K ∗ owing d (O + tallyAt (barCell (nb j d)) () 1) ∗ dutyTok ER (barCell (nb j d)) 0 j
        ∗ bigSepL (dirs j) (fun t => heldAny (F := F) (rows rM (rc t d)) d) ∗ (owing d O -∗ Q ⟨⟩))
      ⊢ runs d (semSignalWord (nb j d) barS 1#32) Q := by
  have hp : (sched m).payload (barCell (nb j d)) 0 j = bigSepL (dirs j) (fun t => heldAny (F := F) (rows rM (rc t d)) d) := by
    rw [payload_bar]
    unfold barPay
    rw [nb_nb]
    exact chain_congr fun t ht => by rw [rc, trD_dirs j d t ht]
  unfold ctx owing runs
  simp only [semSignalWord, Prog.lift, Prog.bind_op, Prog.bind_ret, Prog.pure_eq_ret, wp_deviceId]
  iintro ⟨⟨#HR, -⟩, ⟨%W, HO⟩, Ht, Hp, HQ⟩
  iapply (Rounds.wp_signal 𝒱₀ ER (sched m) (d : Thread nD τ) none (dst := (nb j d : Thread nD τ)) (κ := K (nb j d, none))
      (d := j) (by rw [duties_bar]; exact Finset.mem_univ _) ((amount_bar m (nb j d) j).trans (by decide)) () O rfl)
    $$ [HO Ht Hp]
  · isplitr; · iapply (inv_at m K (nb j d, none)); iexact HR
    isplitl [HO]; · iexact HO
    isplitl [Ht]; · iexact Ht
    isplitl [Hp]; · rw [hp]; iexact Hp
    iapply (reached_at m K (nb j d, none)); iexact HR
  iintro HO
  rw [wp_ret]; imodintro
  iapply HQ
  iexists W; iexact HO

/-- The wait for the three neighbours: the rows of theirs this device's transfers land in. -/
theorem wp_barWait (O : CellTallies nD τ sig Unit) (hO : Above 1 O) (Q : PUnit → sProp 𝕄) :
    iprop(ctx m K ∗ owing d O ∗ atPos ER (barCell d) 0 ∅ 0 ∗ cred (tallyAt (barCell d) () 3)
        ∗ ((owing d O ∗ atPos ER (barCell d) (0 + 1) ∅ 0 ∗ bigSepL trs fun t => heldAny (F := F) (rows rM (sc t d)) (trD t d)) -∗ Q ⟨⟩))
      ⊢ runs d (semWaitWord barS 3#32) Q := by
  have hj : ∀ j, barPay (F := F) d j = bigSepL (dirs j) fun t => heldAny (F := F) (rows rM (sc t d)) (trD t d) := fun j => by
    unfold barPay
    exact chain_congr fun t ht => by rw [trD_dirs j d t ht]
  unfold ctx owing runs
  simp only [semWaitWord, Prog.lift, Prog.bind_op, Prog.bind_ret, Prog.pure_eq_ret]
  iintro ⟨⟨#HR, #HL⟩, ⟨%W, HO⟩, Ha, Hc, HQ⟩
  iapply (Rounds.wp_wait_rest_token 𝒱₀ ER (sched m) (d : Thread nD τ) none (κ := K (d, none))
      (wpE_semWait_eq 𝒱₀ (d : Thread nD τ) none Set.univ) (Set.mem_univ _) () (O := O) (W := W) (R := 0) (m := 0) (T := ∅)
      (by rw [expect_bar]; decide)) $$ [Hc HO Ha]
  · isplitr; · iapply (inv_at m K (d, none)); iexact HR
    isplitl [Hc]; · iexact Hc
    isplitl [HO]; · iexact HO
    isplitr; · iapply (mayWait_of d (.reg barS) O (le_of_eq (lv_bar d)) hO); iexact HL
    iexact Ha
  iintro ⟨HO, Ha, -, Hp⟩
  ihave Hp := (Entails.of_eq (rest_bar m d)) $$ Hp
  rw [wp_ret]; imodintro
  iapply HQ
  isplitl [HO]; · iexists _; iexact HO
  isplitl [Ha]; · iexact Ha
  rw [trs_dirs, bigSepL_append, bigSepL_append, hj, hj, hj]
  iexact Hp

/-- What the handshake uses. -/
def openRes : sProp 𝕄 :=
  iprop((dutyTok ER (barCell (nb 0 d)) 0 0 ∗ dutyTok ER (barCell (nb 1 d)) 0 1 ∗ dutyTok ER (barCell (nb 2 d)) 0 2)
    ∗ (atPos ER (barCell d) 0 ∅ 0 ∗ cred (tallyAt (barCell d) () 3))
    ∗ bigSepL trs (fun t => heldAny (F := F) (rows rM (rc t d)) d))

theorem wp_open (p : P F) (Q : PUnit → sProp 𝕄) :
    iprop(ctx m K ∗ owing d (O₀ d) ∗ openRes d
        ∗ ((owing d (O₁ d) ∗ atPos ER (barCell d) (0 + 1) ∅ 0 ∗ bigSepL trs fun t => heldAny (F := F) (rows rM (sc t d)) (trD t d))
            -∗ runs d p Q))
      ⊢ runs d (do
          semSignalWord (nb 0 d) barS 1#32
          semSignalWord (nb 1 d) barS 1#32
          semSignalWord (nb 2 d) barS 1#32
          semWaitWord barS 3#32
          p) Q := by
  unfold openRes O₀ runs
  rw [wp_bind, wp_bind, wp_bind, wp_bind, trs_dirs, bigSepL_append, bigSepL_append, ← trs_dirs]
  iintro ⟨#Hc, HO, ⟨⟨Ht0, Ht1, Ht2⟩, ⟨Ha, Hcr⟩, Hl0, Hl1, Hl2⟩, HQ⟩
  iapply (wp_barSignal m K d 0 _ _)
  isplitr; · iexact Hc
  isplitl [HO]; · iexact HO
  isplitl [Ht0]; · iexact Ht0
  isplitl [Hl0]; · iexact Hl0
  iintro HO
  iapply (wp_barSignal m K d 1 _ _)
  isplitr; · iexact Hc
  isplitl [HO]; · iexact HO
  isplitl [Ht1]; · iexact Ht1
  isplitl [Hl1]; · iexact Hl1
  iintro HO
  iapply (wp_barSignal m K d 2 _ _)
  isplitr; · iexact Hc
  isplitl [HO]; · iexact HO
  isplitl [Ht2]; · iexact Ht2
  isplitl [Hl2]; · iexact Hl2
  iintro HO
  iapply (wp_barWait m K d (O₁ d) (above_O₁ d) _)
  isplitr; · iexact Hc
  isplitl [HO]; · iexact HO
  isplitl [Ha]; · iexact Ha
  isplitl [Hcr]; · iexact Hcr
  iexact HQ

/-! ## The transfers and the steps -/

/-- What the transfers use besides the rows they land in. -/
def runRes : sProp 𝕄 :=
  iprop(bigSepL trs (fun t => iprop(dutyTok ER (sndCell d t) 0 0 ∗ dutyTok ER (rcvCell (trD t d) t) 0 0))
    ∗ bigSepL trs (fun t => iprop(atPos ER (rcvCell d t) 0 ∅ 0 ∗ cred (tallyAt (rcvCell d t) () N)))
    ∗ bigSepL ((List.range 22).map trY) (srcOf m d)
    ∗ bigSepL (List.range 64) (fun i => iprop(∃ q, held (F := F) (rows xM (ic i d)) d q (xin m d)))
    ∗ bigSepL (List.range 64) (fun i => heldAny (F := F) (rows oM (ic i d)) d))

/-- Shared out: what the transfers at the start use, and what each step uses. -/
theorem runRes_share :
    iprop(runRes m d ∗ bigSepL trs fun t => heldAny (F := F) (rows rM (sc t d)) (trD t d))
      ⊢ iprop(bigSepL ((List.range 22).map trY) (fun t => iprop(srcOf m d t ∗ sendRes d t)) ∗ bigSepL (List.range 64) (stepRes m d)) := by
  have h1 : bigSepL trs (sendRes (F := F) d)
      = iprop(bigSepL ((List.range 22).map trY) (sendRes d) ∗ bigSepL (List.range 64) fun i => bigSepL (stS' i) (sendRes d)) := by
    rw [← chain_perm sends_perm (sends_perm.nodup_iff.mpr trs_nodup), bigSepL_append, fwd, chain_flat]
  have h2 : bigSepL trs (sendRes (F := F) d)
      = iprop(bigSepL trs (fun t => iprop(dutyTok ER (sndCell d t) 0 0 ∗ dutyTok ER (rcvCell (trD t d) t) 0 0))
        ∗ bigSepL trs fun t => heldAny (F := F) (rows rM (sc t d)) (trD t d)) := by
    rw [← chain_sep]
    refine chain_congr fun t _ => ?_
    unfold sendRes
    exact equiv_iff.mp ⟨sep_assoc', sep_assoc⟩
  have h3 : bigSepL trs (fun t => (iprop(atPos ER (rcvCell d t) 0 ∅ 0 ∗ cred (tallyAt (rcvCell d t) () N)) : sProp 𝕄))
      = bigSepL (List.range 64) fun i => iprop(atPos ER (rcvCell d (stR i)) 0 ∅ 0 ∗ cred (tallyAt (rcvCell d (stR i)) () N)) := by
    rw [← chain_perm steps_perm (steps_perm.nodup_iff.mpr trs_nodup), bigSepL_map]
  have h4 : bigSepL (List.range 64) (stepRes m d)
      = iprop((bigSepL (List.range 64) fun i => iprop(atPos ER (rcvCell d (stR i)) 0 ∅ 0 ∗ cred (tallyAt (rcvCell d (stR i)) () N)))
        ∗ (bigSepL (List.range 64) fun i => bigSepL (stS' i) (sendRes d))
        ∗ (bigSepL (List.range 64) fun i => iprop(∃ q, held (F := F) (rows xM (ic i d)) d q (xin m d)))
        ∗ bigSepL (List.range 64) fun i => heldAny (F := F) (rows oM (ic i d)) d) :=
    (chain_sep _ _ _).trans (congrArg _ ((chain_sep _ _ _).trans (congrArg _ (chain_sep _ _ _))))
  unfold runRes
  rw [h3, h4, chain_sep ((List.range 22).map trY)]
  iintro ⟨⟨Ht, Hr, Hs, Hx, Ho⟩, Hd⟩
  ihave H := (Entails.of_eq (h2.symm.trans h1)) $$ [Ht Hd]
  · isplitl [Ht] <;> iassumption
  icases H with ⟨Hy, Hf⟩
  isplitl [Hs Hy]; · isplitl [Hs] <;> iassumption
  isplitl [Hr]; · iexact Hr
  isplitl [Hf]; · iexact Hf
  isplitl [Hx] <;> iassumption

/-- What the steps return, gathered: every landing taken, every departure's credit. -/
theorem stepDone_gather :
    iprop((bigSepL ((List.range 22).map trY) fun t => cred (tallyAt (sndCell d t) () N)) ∗ bigSepL (List.range 64) (stepDone (F := F) d))
      ⊢ iprop((bigSepL trs fun t => atPos ER (rcvCell d t) (0 + 1) ∅ 0) ∗ bigSepL trs fun t => cred (tallyAt (sndCell d t) () N)) := by
  unfold stepDone
  rw [chain_sep, ← chain_flat stS' (List.range 64), ← bigSepL_map stR (List.range 64) (fun t => atPos ER (rcvCell d t) (0 + 1) ∅ 0),
    chain_perm steps_perm (steps_perm.nodup_iff.mpr trs_nodup), ← chain_perm sends_perm (sends_perm.nodup_iff.mpr trs_nodup) (fun t => cred (tallyAt (sndCell d t) () N)),
    bigSepL_append, fwd]
  iintro ⟨Hy, Ha, Hf⟩
  isplitl [Ha]; · iexact Ha
  isplitl [Hy] <;> iassumption

/-- The transfers at the start and the 64 steps. -/
theorem wp_run (p : P F) (Q : PUnit → sProp 𝕄) :
    iprop(ctx m K ∗ owing d (O₁ d) ∗ (runRes m d ∗ bigSepL trs fun t => heldAny (F := F) (rows rM (sc t d)) (trD t d))
        ∗ (Free d 0 ∗ Free d 1)
        ∗ ((owing d 0 ∗ slotsAt m d 64 ∗ (bigSepL trs fun t => atPos ER (rcvCell d t) (0 + 1) ∅ 0)
              ∗ bigSepL trs fun t => cred (tallyAt (sndCell d t) () N)) -∗ runs d p Q))
      ⊢ runs d (do
          each (send d) ((List.range 22).map trY)
          each (step d) (List.range 64)
          p) Q := by
  have hO : O₁ d = left d 0 + dues d ((List.range 22).map trY) := by
    unfold O₁ left
    rw [dues_append, List.range_eq_range' (n := 64)]
  have h := wp_loop d (step d) (fun i => iprop(ctx m K ∗ slotsAt m d i ∗ owing d (left d i))) (stepRes m d) (stepDone d) 64 0
    (fun i hi Q => wp_step m K d i (by omega) Q)
  rw [← List.range_eq_range'] at h
  unfold runs
  rw [wp_bind, wp_bind, hO]
  iintro ⟨#Hc, HO, Hr, Hs, HQ⟩
  ihave Hr := (runRes_share m d) $$ Hr
  icases Hr with ⟨Hy, Hst⟩
  iapply (wp_sends m K d ((List.range 22).map trY) (left d 0) _)
  isplitl [HO]
  · isplitr; · iexact Hc
    iexact HO
  isplitl [Hy]; · iexact Hy
  iintro ⟨⟨-, HO⟩, Hcy⟩
  iapply (h _)
  isplitl [HO Hs]
  · isplitr; · iexact Hc
    isplitl [Hs]; · iapply (show iprop(Free d 0 ∗ Free d 1) ⊢ slotsAt m d 0 from Entails.refl _) $$ Hs
    iexact HO
  isplitl [Hst]; · iexact Hst
  iintro ⟨⟨-, Hs, HO⟩, Hd⟩
  iapply HQ
  isplitl [HO]; · iexact HO
  isplitl [Hs]; · iexact Hs
  iapply (stepDone_gather d)
  isplitl [Hcy] <;> iassumption

/-! ## The end -/

/-- The last additions: both slots free, all chunks of the result done. -/
theorem wp_finish (p : P F) (Q : PUnit → sProp 𝕄) :
    iprop(ctx m K ∗ owing d 0 ∗ slotsAt m d 64
        ∗ ((owing d 0 ∗ Free d 0 ∗ Free d 1 ∗ bigSepL (List.range 64) (done m d)) -∗ runs d p Q))
      ⊢ runs d (do
          combine d 1 63
          stored d 0 62
          stored d 1 63
          p) Q := by
  unfold runs
  rw [wp_bind, wp_bind, wp_bind, slotsAt_two m d 62, List.range_succ (n := 63), List.range_succ (n := 62), bigSepL_append, bigSepL_append,
    bigSepL_singleton, bigSepL_singleton]
  iintro ⟨#Hc, HO, ⟨H0, H1, Ho, Hd⟩, HQ⟩
  iapply (wp_combine m K d 1 63 0 (Above.zero 0) _)
  isplitr; · iexact Hc
  isplitl [H1]; · iexact H1
  isplitl [Ho]; · iexact Ho
  isplitl [HO]; · iexact HO
  iintro ⟨H1, HO⟩
  iapply (wp_stored m K d 0 62 0 (Above.zero 0) _)
  isplitr; · iexact Hc
  isplitl [H0]; · iexact H0
  isplitl [HO]; · iexact HO
  iintro ⟨H0, Hd0, HO⟩
  iapply (wp_stored m K d 1 63 0 (Above.zero 0) _)
  isplitr; · iexact Hc
  isplitl [H1]; · iexact H1
  isplitl [HO]; · iexact HO
  iintro ⟨H1, Hd1, HO⟩
  iapply HQ
  isplitl [HO]; · iexact HO
  isplitl [H0]; · iexact H0
  isplitl [H1]; · iexact H1
  isplitr [Hd1]
  swap; · iapply (show held (F := F) (rows oM (ic 63 d)) d fullShare (res m d) ⊢ done m d 63 from Entails.refl _) $$ Hd1
  isplitl [Hd]; · iexact Hd
  iapply (show held (F := F) (rows oM (ic 62 d)) d fullShare (res m d) ⊢ done m d 62 from Entails.refl _) $$ Hd0

/-- The waits for the departures. -/
theorem wp_sents (Q : PUnit → sProp 𝕄) :
    iprop(ctx m K ∗ owing d 0 ∗ (bigSepL trs fun t => atPos ER (sndCell d t) 0 ∅ 0) ∗ (bigSepL trs fun t => cred (tallyAt (sndCell d t) () N))
        ∗ ((owing d 0 ∗ bigSepL trs fun t => atPos ER (sndCell d t) (0 + 1) ∅ 0) -∗ Q ⟨⟩))
      ⊢ runs d (each (sent d) trs) Q := by
  have h := wp_each d (sent d) (fun _ => iprop(ctx m K ∗ owing d 0))
    (fun t => iprop(atPos ER (sndCell d t) 0 ∅ 0 ∗ cred (tallyAt (sndCell d t) () N))) (fun t => atPos ER (sndCell d t) (0 + 1) ∅ 0) (by
      intro t l Q
      iintro ⟨⟨#Hc, HO⟩, Hr, HQ⟩
      iapply (wp_sent m K d t Q)
      isplitr; · iexact Hc
      isplitl [Hr]; · iexact Hr
      isplitl [HO]; · iexact HO
      iintro ⟨Hd, HO⟩
      iapply HQ
      isplitl [HO]
      · isplitr; · iexact Hc
        iexact HO
      iexact Hd) trs Q
  rw [chain_sep] at h
  iintro ⟨#Hc, HO, Ha, Hcr, HQ⟩
  iapply h
  isplitl [HO]
  · isplitr; · iexact Hc
    iexact HO
  isplitl [Ha Hcr]; · isplitl [Ha] <;> iassumption
  iintro ⟨⟨-, HO⟩, Ha⟩
  iapply HQ
  isplitl [HO] <;> iassumption

/-! ## All of it -/

/-- What the body uses. -/
def textPre : sProp 𝕄 :=
  iprop(openRes d ∗ runRes m d ∗ (Free d 0 ∗ Free d 1) ∗ bigSepL trs fun t => atPos ER (sndCell d t) 0 ∅ 0)

/-- What it leaves: every cell's round over, both slots free, the result. -/
def textPost : sProp 𝕄 :=
  iprop(atPos ER (barCell d) (0 + 1) ∅ 0 ∗ (bigSepL trs fun t => atPos ER (rcvCell d t) (0 + 1) ∅ 0)
    ∗ (bigSepL trs fun t => atPos ER (sndCell d t) (0 + 1) ∅ 0) ∗ (Free d 0 ∗ Free d 1) ∗ bigSepL (List.range 64) (done m d))

theorem wp_text (Q : PUnit → sProp 𝕄) :
    iprop(ctx m K ∗ owing d (O₀ d) ∗ textPre m d ∗ ((owing d 0 ∗ textPost m d) -∗ Q ⟨⟩)) ⊢ runs d (text d) Q := by
  unfold textPre textPost
  iintro ⟨#Hc, HO, ⟨Hop, Hr, Hf, Has⟩, HQ⟩
  iapply (wp_open m K d _ Q)
  isplitr; · iexact Hc
  isplitl [HO]; · iexact HO
  isplitl [Hop]; · iexact Hop
  iintro ⟨HO, Hab, Hl⟩
  iapply (wp_run m K d _ Q)
  isplitr; · iexact Hc
  isplitl [HO]; · iexact HO
  isplitl [Hr Hl]; · isplitl [Hr] <;> iassumption
  isplitl [Hf]; · iexact Hf
  iintro ⟨HO, Hs, Har, Hcr⟩
  iapply (wp_finish m K d _ Q)
  isplitr; · iexact Hc
  isplitl [HO]; · iexact HO
  isplitl [Hs]; · iexact Hs
  iintro ⟨HO, H0, H1, Hd⟩
  iapply (wp_sents m K d Q)
  isplitr; · iexact Hc
  isplitl [HO]; · iexact HO
  isplitl [Has]; · iexact Has
  isplitl [Hcr]; · iexact Hcr
  iintro ⟨HO, Has⟩
  iapply HQ
  isplitl [HO]; · iexact HO
  isplitl [Hab]; · iexact Hab
  isplitl [Har]; · iexact Har
  isplitl [Has]; · iexact Has
  isplitl [H0 H1]; · isplitl [H0] <;> iassumption
  iexact Hd

end Cert.Allsum

end
-- ==== Proof.Split.lean ====
/-
# Arrays in chunks, buffers in slots

A device holds each of its arrays whole at the start and its result whole at the end; the steps hold chunks. Likewise the
two scratch buffers and their slots.
-/
module

public import proofs.«01_k».proof.Proof.Body

@[expose] public section

noncomputable section

namespace Cert.Allsum

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (d : Dev nD)

/-! ## The orders the chunks are met in -/

section Orders

omit [FloatOps F]

/-- All chunks are the chunks of the steps, -/
theorem chunks_steps (Φ : Fin 64 → sProp 𝕄) :
    bigSep Finset.univ Φ = bigSepL (List.range 64) fun i => Φ (ic i d) := by
  have h : ∀ d : Dev nD, (Finset.univ : Finset (Fin 64)) = ((List.range 64).map (ic · d)).toFinset
      ∧ ((List.range 64).map (ic · d)).Nodup := by decide +kernel
  rw [bigSep_eq_bigSepL_of_eq _ (h d).1 (h d).2, bigSepL_map]

/-- and the chunks received. -/
theorem chunks_rc (Φ : Fin 64 → sProp 𝕄) : bigSep Finset.univ Φ = bigSepL trs fun t => Φ (rc t d) := by
  rw [chunks_steps d, ← chain_perm steps_perm (steps_perm.nodup_iff.mpr trs_nodup), bigSepL_map]
  exact chain_congr fun i hi => by rw [ic_stR i (List.mem_range.mp hi) d]

/-- The chunks sent along y are among them. -/
theorem chunks_y (Φ : Fin 64 → sProp 𝕄) : bigSep Finset.univ Φ ⊢ bigSepL ((List.range 22).map trY) fun t => Φ (sc t d) := by
  have h : bigSepL (dirs 0) (fun t => Φ (rc t (nb 0 d))) = bigSepL ((List.range 22).map trY) fun t => Φ (sc t d) :=
    chain_congr fun t ht => by rw [rc, trD_dirs 0 _ t ht, nb_nb]
  rw [chunks_rc (nb 0 d), trs_dirs, bigSepL_append, h]
  iintro ⟨H, -⟩
  iexact H

end Orders

/-! ## Arrays -/

/-- An array of a device. -/
abbrev arr (b : Ref sig .tc) : Loc nD τ sig := (d : Thread nD τ).loc b

theorem x_chunks (q : PosShare TreeShare) (f : Arr F) :
    (arr d main_arg0 ↦{q} f : sProp 𝕄) = bigSep Finset.univ fun n => held (F := F) (rows xM n) d q f := by
  refine (Ring.pointsTo_blocks (ℓ := arr d main_arg0) (fun n : Fin 64 => (rowsRect n).set) rowsRect_disjoint rowsRect_cover f).trans ?_
  refine bigSep_congr fun n _ => ?_
  unfold held
  rw [xset]; rfl

theorem o_chunks (q : PosShare TreeShare) (f : Arr F) :
    (arr d main_v1_0 ↦{q} f : sProp 𝕄) = bigSep Finset.univ fun n => held (F := F) (rows oM n) d q f := by
  refine (Ring.pointsTo_blocks (ℓ := arr d main_v1_0) (fun n : Fin 64 => (rowsRect n).set) rowsRect_disjoint rowsRect_cover f).trans ?_
  refine bigSep_congr fun n _ => ?_
  unfold held
  rw [oset]; rfl

theorem r_chunks (q : PosShare TreeShare) (f : Arr F) :
    (arr d main_v1_1 ↦{q} f : sProp 𝕄) = bigSep Finset.univ fun n => held (F := F) (rows rM n) d q f := by
  refine (Ring.pointsTo_blocks (ℓ := arr d main_v1_1) (fun n : Fin 64 => (rowsRect n).set) rowsRect_disjoint rowsRect_cover f).trans ?_
  refine bigSep_congr fun n _ => ?_
  unfold held
  rw [rset]; rfl

/-- The own rows: half is kept aside, a quarter read by the steps, a quarter sent. -/
theorem x_split (f : Arr F) : (arr d main_arg0 ↦{fullShare} f : sProp 𝕄)
    ⊢ iprop((arr d main_arg0 ↦{fullShare.left} f)
        ∗ bigSepL (List.range 64) (fun i => iprop(∃ q, held (F := F) (rows xM (ic i d)) d q f))
        ∗ bigSepL ((List.range 22).map trY) (fun t => iprop(∃ q, held (F := F) (rows xM (sc t d)) d q f))) := by
  have hs : ∀ q : PosShare TreeShare, (arr d main_arg0 ↦{q} f : sProp 𝕄)
      ⊢ iprop((arr d main_arg0 ↦{q.left} f) ∗ (arr d main_arg0 ↦{q.right} f)) := fun q =>
    (pointsTo_share (PosShare.mem_left_op_right q)).1
  have h1 : (arr d main_arg0 ↦{fullShare.right.left} f : sProp 𝕄)
      ⊢ bigSepL (List.range 64) (fun i => iprop(∃ q, held (F := F) (rows xM (ic i d)) d q f)) := by
    rw [x_chunks, chunks_steps d]
    exact bigSepL_mono fun i _ => by iintro H; iexists _; iexact H
  have h2 : (arr d main_arg0 ↦{fullShare.right.right} f : sProp 𝕄)
      ⊢ bigSepL ((List.range 22).map trY) (fun t => iprop(∃ q, held (F := F) (rows xM (sc t d)) d q f)) := by
    rw [x_chunks]
    refine (chunks_y d _).trans (bigSepL_mono fun t _ => ?_)
    iintro H; iexists _; iexact H
  iintro H
  ihave H := (hs _) $$ H
  icases H with ⟨Hl, Hr⟩
  ihave Hr := (hs _) $$ Hr
  icases Hr with ⟨H1, H2⟩
  isplitl [Hl]; · iexact Hl
  isplitl [H1]; · iapply h1; iexact H1
  iapply h2; iexact H2

/-- The sources of the transfers along y are chunks of the own rows. -/
theorem src_y : bigSepL ((List.range 22).map trY) (fun t => iprop(∃ q, held (F := F) (rows xM (sc t d)) d q (xin m d)))
    = bigSepL ((List.range 22).map trY) (srcOf m d) := by
  rw [bigSepL_map, bigSepL_map]
  rfl

theorem o_split (f : Arr F) : (arr d main_v1_0 ↦{fullShare} f : sProp 𝕄)
    ⊢ bigSepL (List.range 64) (fun i => heldAny (F := F) (rows oM (ic i d)) d) := by
  rw [o_chunks, chunks_steps d]
  exact bigSepL_mono fun i _ => by iintro H; iexists _; iexact H

theorem r_split (f : Arr F) : (arr d main_v1_1 ↦{fullShare} f : sProp 𝕄)
    ⊢ bigSepL trs (fun t => heldAny (F := F) (rows rM (rc t d)) d) := by
  rw [r_chunks, chunks_rc d]
  exact bigSepL_mono fun i _ => by iintro H; iexists _; iexact H

/-- The sums of all steps are the result. -/
theorem o_join : bigSepL (List.range 64) (done m d) = (arr d main_v1_0 ↦{fullShare} res m d : sProp 𝕄) := by
  rw [o_chunks, chunks_steps d]
  rfl

/-! ## Slots -/

theorem a_slots (q : PosShare TreeShare) (f : S2x256x1024.Idx → Elt F .f32) :
    (arr d cc0_scratch0 ↦{q} f : sProp 𝕄) = bigSep Finset.univ fun s => held (F := F) (slotM aM s) d q f := by
  refine (Ring.pointsTo_blocks (ℓ := arr d cc0_scratch0) (fun s : Fin 2 => (slotRect s).set) slotRect_disjoint slotRect_cover f).trans ?_
  refine bigSep_congr fun s _ => ?_
  unfold held
  rw [slot_setA]; rfl

theorem b_slots (q : PosShare TreeShare) (f : S2x256x1024.Idx → Elt F .f32) :
    (arr d cc0_scratch1 ↦{q} f : sProp 𝕄) = bigSep Finset.univ fun s => held (F := F) (slotM bM s) d q f := by
  refine (Ring.pointsTo_blocks (ℓ := arr d cc0_scratch1) (fun s : Fin 2 => (slotRect s).set) slotRect_disjoint slotRect_cover f).trans ?_
  refine bigSep_congr fun s _ => ?_
  unfold held
  rw [slot_setB]; rfl

omit [FloatOps F] in
theorem slots_two (Φ : Fin 2 → sProp 𝕄) : bigSep Finset.univ Φ = iprop(Φ 0 ∗ Φ 1) :=
  bigSep_univ_eq_bigSepL [0, 1] (by decide) (by decide) Φ

theorem a_split : iprop(∃ f : S2x256x1024.Idx → Elt F .f32, arr d cc0_scratch0 ↦{fullShare} f)
    ⊢ (iprop(heldAny (F := F) (slotM aM 0) d ∗ heldAny (F := F) (slotM aM 1) d) : sProp 𝕄) := by
  iintro ⟨%f, H⟩
  ihave H := (Entails.of_eq ((a_slots d fullShare f).trans (slots_two _))) $$ H
  icases H with ⟨H0, H1⟩
  isplitl [H0]; · iexists _; iexact H0
  iexists _; iexact H1

theorem b_split : iprop(∃ f : S2x256x1024.Idx → Elt F .f32, arr d cc0_scratch1 ↦{fullShare} f)
    ⊢ (iprop(heldAny (F := F) (slotM bM 0) d ∗ heldAny (F := F) (slotM bM 1) d) : sProp 𝕄) := by
  iintro ⟨%f, H⟩
  ihave H := (Entails.of_eq ((b_slots d fullShare f).trans (slots_two _))) $$ H
  icases H with ⟨H0, H1⟩
  isplitl [H0]; · iexists _; iexact H0
  iexists _; iexact H1

theorem a_join : (iprop(heldAny (F := F) (slotM aM 0) d ∗ heldAny (F := F) (slotM aM 1) d) : sProp 𝕄)
    ⊢ iprop(∃ f : S2x256x1024.Idx → Elt F .f32, arr d cc0_scratch0 ↦{fullShare} f) := by
  have h : ∀ s, heldAny (F := F) (slotM aM s) d
      = (iprop(∃ f : S2x256x1024.Idx → Elt F .f32, arr d cc0_scratch0 ↦[(slotRect s).set]{fullShare} f) : sProp 𝕄) := fun s => by
    unfold heldAny held; rw [slot_setA]; rfl
  iintro ⟨H0, H1⟩
  iapply (Ring.pointsTo_blocks_join_exists (ℓ := arr d cc0_scratch0) (fun s : Fin 2 => (slotRect s).set) slotRect_disjoint slotRect_cover
    (fun _ => Classical.arbitrary _))
  iapply (Entails.of_eq (slots_two _).symm)
  isplitl [H0]
  · iapply (Entails.of_eq (h 0)); iexact H0
  · iapply (Entails.of_eq (h 1)); iexact H1

theorem b_join : (iprop(heldAny (F := F) (slotM bM 0) d ∗ heldAny (F := F) (slotM bM 1) d) : sProp 𝕄)
    ⊢ iprop(∃ f : S2x256x1024.Idx → Elt F .f32, arr d cc0_scratch1 ↦{fullShare} f) := by
  have h : ∀ s, heldAny (F := F) (slotM bM s) d
      = (iprop(∃ f : S2x256x1024.Idx → Elt F .f32, arr d cc0_scratch1 ↦[(slotRect s).set]{fullShare} f) : sProp 𝕄) := fun s => by
    unfold heldAny held; rw [slot_setB]; rfl
  iintro ⟨H0, H1⟩
  iapply (Ring.pointsTo_blocks_join_exists (ℓ := arr d cc0_scratch1) (fun s : Fin 2 => (slotRect s).set) slotRect_disjoint slotRect_cover
    (fun _ => Classical.arbitrary _))
  iapply (Entails.of_eq (slots_two _).symm)
  isplitl [H0]
  · iapply (Entails.of_eq (h 0)); iexact H0
  · iapply (Entails.of_eq (h 1)); iexact H1

end Cert.Allsum

end
-- ==== Proof.Fund.lean ====
/-
# What the launch hands out

The protocol's ghost state is made once, for all devices: every cell's invariant, every position, and every right to pay,
which goes to the device that pays with it. The credits a device starts with are what the other devices owe its cells.
-/
module

public import proofs.«01_k».proof.Proof.Split
public import proofs.«01_k».proof.Proof.Gen.KernelIdeal.Launch

@[expose] public section

noncomputable section

namespace Cert.Allsum

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Enumerations -/

section Enumerations

omit [FloatOps F]

theorem trs_all (Φ : Tr → sProp 𝕄) : bigSep Finset.univ Φ = bigSepL trs Φ :=
  bigSep_univ_eq_bigSepL trs (by decide +kernel) trs_nodup Φ

theorem dirs_all (Φ : Fin 3 → sProp 𝕄) : bigSep Finset.univ Φ = iprop(Φ 0 ∗ Φ 1 ∗ Φ 2) :=
  bigSep_univ_eq_bigSepL [0, 1, 2] (by decide) (by decide) Φ

/-- A device's protocol cells: the barrier's, the departures', the landings'. -/
def cis : List CI := none :: (trs.map (fun t => some (.inl t)) ++ trs.map (fun t => some (.inr t)))

theorem cis_all (Φ : CI → sProp 𝕄) :
    bigSep Finset.univ Φ = iprop(Φ none ∗ bigSepL trs (fun t => Φ (some (.inl t))) ∗ bigSepL trs (fun t => Φ (some (.inr t)))) := by
  rw [bigSep_univ_eq_bigSepL cis (by decide +kernel) (by decide +kernel), cis, bigSepL_cons', bigSepL_append, bigSepL_map, bigSepL_map]

end Enumerations

/-! ## The semaphores at launch -/

/-- The kernel's own semaphores: departures, landings, loads, stores. -/
abbrev OI : Type := (Tr ⊕ Tr) ⊕ (Fin 4 ⊕ Fin 2)
def osem : OI → SemLoc sig
  | .inl (.inl t) => .dma (sndS t)
  | .inl (.inr t) => .dma (rcvS t)
  | .inr (.inl j) => .dma (ldS j)
  | .inr (.inr s) => .dma (stS s)

theorem ownSemFacts : Pipeline.OwnSemFacts cfg0.spec osem where
  isScoped := by decide +kernel
  inj := by
    have h : ∀ k k' : OI, osem k = osem k' → k = k' := by decide +kernel
    exact fun k k' e => h k k' e
  disj _ w := w.elim0

/-- The semaphores of the local copies at rest. -/
def quiet (d : Dev nD) : sProp 𝕄 :=
  iprop((bigSep Finset.univ fun j : Fin 4 => idle (F := F) d (ldS j)) ∗ bigSep Finset.univ fun s : Fin 2 => idle (F := F) d (stS s))

omit [FloatOps F] in
theorem ownSems0_eq (d : Dev nD) :
    (Pipeline.ownSems0 (Ix := Unit) (Name := ℕ) (U := UU) (Lvl := ℕ) (Val := Elt F) (τ := τ) osem d : sProp 𝕄)
      = iprop((bigSepL trs (fun t => idle (F := F) d (sndS t)) ∗ bigSepL trs (fun t => idle (F := F) d (rcvS t))) ∗ quiet d) := by
  unfold Pipeline.ownSems0 quiet
  rw [bigSep_univ_sum, bigSep_univ_sum (fun a : Tr ⊕ Tr => (semVal ((d : Thread nD τ), osem (.inl a)) 0 : sProp 𝕄)),
    bigSep_univ_sum (fun a : Fin 4 ⊕ Fin 2 => (semVal ((d : Thread nD τ), osem (.inr a)) 0 : sProp 𝕄)), trs_all, trs_all]
  rfl

omit [FloatOps F] in
/-- The barrier semaphore is the only one that outlives the kernel. -/
theorem unscopedSems0_eq (d : Dev nD) : (unscopedSems0 d : sProp 𝕄) = semVal (barCell d) 0 := by
  unfold unscopedSems0
  rw [bigSep_eq_bigSepL_of_eq [SemLoc.reg barS] (by decide +kernel) (by decide)]; rfl

omit [FloatOps F] in
/-- The protocol's counters among them. -/
theorem sems_kcell (d : Dev nD) :
    iprop(Pipeline.ownSems0 (Ix := Unit) (Name := ℕ) (U := UU) (Lvl := ℕ) (Val := Elt F) (τ := τ) osem d ∗ unscopedSems0 d)
      = (iprop((bigSep Finset.univ fun k : CI => semVal (kcell (d, k)) 0) ∗ quiet d) : sProp 𝕄) := by
  rw [ownSems0_eq, unscopedSems0_eq, cis_all]
  have h : ∀ P₁ P₂ P₃ P₄ : sProp 𝕄, iprop(((P₁ ∗ P₂) ∗ P₃) ∗ P₄) ⊢ iprop((P₄ ∗ P₁ ∗ P₂) ∗ P₃) := fun _ _ _ _ => by
    iintro ⟨⟨⟨H1, H2⟩, H3⟩, H4⟩
    isplitl [H1 H2 H4]
    · isplitl [H4]; · iexact H4
      isplitl [H1] <;> iassumption
    iexact H3
  have h' : ∀ P₁ P₂ P₃ P₄ : sProp 𝕄, iprop((P₄ ∗ P₁ ∗ P₂) ∗ P₃) ⊢ iprop(((P₁ ∗ P₂) ∗ P₃) ∗ P₄) := fun _ _ _ _ => by
    iintro ⟨⟨H4, H1, H2⟩, H3⟩
    isplitr [H4]
    · isplitl [H1 H2]; · isplitl [H1] <;> iassumption
      iexact H3
    iexact H4
  exact Entails.antisymm (h _ _ _ _) (h' _ _ _ _)

/-! ## The ghost state at launch -/

theorem kcell_inj : Function.Injective (kcell : Dev nD × CI → GSem nD τ sig) := by
  have hs : ∀ k k' : CI, csem k = csem k' → k = k' := by decide +kernel
  rintro ⟨c, k⟩ ⟨c', k'⟩ h
  have h1 : c = c' := congrArg (fun g : GSem nD τ sig => g.1.1) h
  have h2 : csem k = csem k' := congrArg Prod.snd h
  rw [h1, hs k k' h2]

def protoCells : Finset (GSem nD τ sig) := Finset.univ.map ⟨kcell, kcell_inj⟩

/-- The rights to pay a device's own cells: its barrier's three, each departure's, each landing's. -/
abbrev TI : Type := Fin 3 ⊕ (Tr ⊕ Tr)
def tokAt : Dev nD × TI → GSem nD τ sig × ℕ × Fin 3
  | (c, .inl j) => (barCell c, 0, j)
  | (c, .inr (.inl t)) => (sndCell c t, 0, 0)
  | (c, .inr (.inr t)) => (rcvCell c t, 0, 0)

theorem tokAt_inj : Function.Injective tokAt := by
  have hs : ∀ k k' : TI, ((tokAt (0, k)).1.2, (tokAt (0, k)).2) = ((tokAt (0, k')).1.2, (tokAt (0, k')).2) → k = k' := by decide +kernel
  have h0 : ∀ c k, ((tokAt (c, k)).1.2, (tokAt (c, k)).2) = ((tokAt (0, k)).1.2, (tokAt (0, k)).2) := fun c k => by
    rcases k with j | t | t <;> rfl
  have hc : ∀ c k, (tokAt (c, k)).1.1.1 = c := fun c k => by rcases k with j | t | t <;> rfl
  rintro ⟨c, k⟩ ⟨c', k'⟩ h
  have h1 : c = c' := by rw [← hc c k, h, hc]
  have h2 : k = k' := hs k k' (by rw [← h0 c k, ← h0 c' k', h])
  rw [h1, h2]

def protoToks : Finset (GSem nD τ sig × ℕ × Fin 3) := Finset.univ.map ⟨tokAt, tokAt_inj⟩

def u₀ : UU :=
  (initOf (Pipeline.cells cfgs cellOf_inj) (Pipeline.launchToks cfgs cellOf_inj), (initOf protoCells protoToks, 1))

/-- The rights to pay device `d`'s own cells. -/
def toks (d : Dev nD) : sProp 𝕄 :=
  iprop((bigSep Finset.univ fun j : Fin 3 => dutyTok ER (barCell d) 0 j)
    ∗ (bigSep Finset.univ fun t : Tr => dutyTok ER (sndCell d t) 0 0) ∗ bigSep Finset.univ fun t : Tr => dutyTok ER (rcvCell d t) 0 0)

/-- The rights device `d` pays with. -/
def payToks (d : Dev nD) : sProp 𝕄 :=
  iprop((bigSep Finset.univ fun j : Fin 3 => dutyTok ER (barCell (nb j d)) 0 j)
    ∗ (bigSep Finset.univ fun t : Tr => dutyTok ER (sndCell d t) 0 0) ∗ bigSep Finset.univ fun t : Tr => dutyTok ER (rcvCell (trD t d) t) 0 0)

/-- A device's positions: at the start of its cells' one round. -/
def poss (d : Dev nD) : sProp 𝕄 := bigSep Finset.univ fun k : CI => atPos ER (kcell (d, k)) 0 ∅ 0

/-- What the launch deals device `d`, -/
def G (d : Dev nD) : sProp 𝕄 :=
  iprop((bigSep Finset.univ fun k : CI => roundState ER (sched m) (kcell (d, k)) 0)
    ∗ (bigSep Finset.univ fun k : CI => reached ER (kcell (d, k)) 0) ∗ poss d ∗ toks d)

/-- what it has when the invariants are made, -/
def mine (d : Dev nD) : sProp 𝕄 := iprop(poss d ∗ payToks d ∗ quiet d)

/-- and with the records of them. -/
def G' (d : Dev nD) : sProp 𝕄 := iprop(∃ K, records m K ∗ mine d)

omit [FloatOps F] in
theorem fund_toks : bigSep protoToks (fun x => (dutyTok ER x.1 x.2.1 x.2.2 : sProp 𝕄)) = bigSep Finset.univ fun d : Dev nD => toks d := by
  unfold protoToks
  rw [bigSep_map, bigSep_univ_prod]
  refine bigSep_congr fun d _ => ?_
  unfold toks
  rw [bigSep_univ_sum, bigSep_univ_sum]
  rfl

omit [FloatOps F] in
theorem fund_cells (Φ : GSem nD τ sig → sProp 𝕄) :
    bigSep protoCells Φ = bigSep Finset.univ fun d : Dev nD => bigSep Finset.univ fun k : CI => Φ (kcell (d, k)) := by
  unfold protoCells
  rw [bigSep_map, bigSep_univ_prod]; rfl

theorem fund_all : BI.own (ER (initOf protoCells protoToks)) ⊢ (|==> bigSep Finset.univ (G m) : sProp 𝕄) := by
  have h : bigSep Finset.univ (G m)
      = (iprop((bigSep Finset.univ fun d : Dev nD => bigSep Finset.univ fun k : CI => roundState ER (sched m) (kcell (d, k)) 0)
        ∗ (bigSep Finset.univ fun d : Dev nD => bigSep Finset.univ fun k : CI => reached ER (kcell (d, k)) 0)
        ∗ (bigSep Finset.univ fun d : Dev nD => poss d) ∗ bigSep Finset.univ fun d : Dev nD => toks d) : sProp 𝕄) := by
    unfold G
    rw [bigSep_sep', bigSep_sep', bigSep_sep']
  have h' : bigSep protoCells (fun g => atPos ER g 0 ∅ 0) = (bigSep Finset.univ fun d : Dev nD => poss d : sProp 𝕄) := by
    rw [fund_cells]; rfl
  rw [h, ← fund_cells (fun g => roundState ER (sched m) g 0), ← fund_cells (fun g => reached ER g 0), ← h', ← fund_toks]
  exact Rounds.fund ER (sched m) protoCells protoToks

/-- One device's invariants. -/
theorem alloc_one (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : CI => iprop(∃ κ : ℕ, cellInv ER (sched m) κ (kcell (d, k))))
          ∗ (bigSep Finset.univ fun k : CI => reached ER (kcell (d, k)) 0) ∗ (poss d ∗ toks d ∗ quiet d) : sProp 𝕄) := by
  have ha : iprop((bigSep Finset.univ fun k : CI => semVal (kcell (d, k)) 0)
        ∗ bigSep Finset.univ fun k : CI => roundState ER (sched m) (kcell (d, k)) 0)
      ⊢ (|={Set.univ}=> bigSep Finset.univ fun k : CI => iprop(∃ κ : ℕ, cellInv ER (sched m) κ (kcell (d, k))) : sProp 𝕄) := by
    rw [← bigSep_sep']
    exact (bigSep_mono fun k _ => (Rounds.body_intro ER (sched m) (kcell (d, k))).trans inv_alloc).trans (bigSep_fupd _ _)
  unfold G
  iintro ⟨Ho, Hu, Hst, Hr, Ha, Ht⟩
  ihave Hv := (Entails.of_eq (sems_kcell (F := F) d)) $$ [Ho Hu]
  · isplitl [Ho] <;> iassumption
  icases Hv with ⟨Hv, Hq⟩
  imod ha $$ [Hv Hst] with Hi
  · isplitl [Hv] <;> iassumption
  imodintro
  isplitl [Hi]; · iexact Hi
  isplitl [Hr]; · iexact Hr
  isplitl [Ha]; · iexact Ha
  isplitl [Ht] <;> iassumption

omit [FloatOps F] in
/-- The rights to pay go to those who pay. -/
theorem toks_deal : (bigSep Finset.univ fun d : Dev nD => (toks d : sProp 𝕄)) = bigSep Finset.univ fun d : Dev nD => payToks d := by
  have hb : (bigSep Finset.univ fun d : Dev nD => bigSep Finset.univ fun j : Fin 3 => (dutyTok ER (barCell d) 0 j : sProp 𝕄))
      = bigSep Finset.univ fun d : Dev nD => bigSep Finset.univ fun j : Fin 3 => dutyTok ER (barCell (nb j d)) 0 j := by
    rw [bigSep_univ_comm, bigSep_univ_comm (fun (d : Dev nD) (j : Fin 3) => (dutyTok ER (barCell (nb j d)) 0 j : sProp 𝕄))]
    exact bigSep_congr fun j _ => bigSep_univ_equiv (nbEquiv j) (fun d => (dutyTok ER (barCell d) 0 j : sProp 𝕄))
  have hr : (bigSep Finset.univ fun d : Dev nD => bigSep Finset.univ fun t : Tr => (dutyTok ER (rcvCell d t) 0 0 : sProp 𝕄))
      = bigSep Finset.univ fun d : Dev nD => bigSep Finset.univ fun t : Tr => dutyTok ER (rcvCell (trD t d) t) 0 0 := by
    rw [bigSep_univ_comm, bigSep_univ_comm (fun (d : Dev nD) (t : Tr) => (dutyTok ER (rcvCell (trD t d) t) 0 0 : sProp 𝕄))]
    refine bigSep_congr fun t _ => ?_
    rw [bigSep_univ_equiv (nbEquiv (trJ t)) (fun d => (dutyTok ER (rcvCell d t) 0 0 : sProp 𝕄))]
    exact bigSep_congr fun d _ => by rw [trD_eq]; rfl
  unfold toks payToks
  rw [bigSep_sep', bigSep_sep', bigSep_sep', bigSep_sep', hb, hr]

omit [FloatOps F] in
/-- Every device gets a copy of what may be copied. -/
theorem share_all {I : Type} [DecidableEq I] (S : Finset I) (R : sProp 𝕄) [BI.Persistent R] (Φ : I → sProp 𝕄) :
    iprop(R ∗ bigSep S Φ) ⊢ bigSep S fun i => iprop(R ∗ Φ i) := by
  rw [bigSep_sep']
  exact sep_mono_left (BI.bigSep_of_persistent S R)

theorem deal :
    (bigSep Finset.univ fun d : Dev nD => iprop((bigSep Finset.univ fun k : CI => iprop(∃ κ : ℕ, cellInv ER (sched m) κ (kcell (d, k))))
          ∗ (bigSep Finset.univ fun k : CI => reached ER (kcell (d, k)) 0) ∗ (poss d ∗ toks d ∗ quiet d)) : sProp 𝕄)
      ⊢ bigSep Finset.univ (G' m) := by
  have hm : iprop((bigSep Finset.univ fun d : Dev nD => poss d) ∗ (bigSep Finset.univ fun d : Dev nD => payToks d)
      ∗ bigSep Finset.univ fun d : Dev nD => quiet d) = (bigSep Finset.univ fun d : Dev nD => mine d : sProp 𝕄) := by
    unfold mine; rw [bigSep_sep', bigSep_sep']
  rw [bigSep_sep', bigSep_sep', bigSep_sep', bigSep_sep', toks_deal, hm,
    ← bigSep_univ_prod (fun ck : Dev nD × CI => (iprop(∃ κ : ℕ, cellInv ER (sched m) κ (kcell ck)) : sProp 𝕄)),
    ← bigSep_univ_prod (fun ck : Dev nD × CI => (reached ER (kcell ck) 0 : sProp 𝕄))]
  iintro ⟨HI, HR, Hm⟩
  ihave HK := (BI.bigSep_exists_pi Finset.univ (fun (ck : Dev nD × CI) (κ : ℕ) => (cellInv ER (sched m) κ (kcell ck) : sProp 𝕄))) $$ HI
  icases HK with ⟨%K, HI⟩
  ihave H := (share_all Finset.univ (records m K) (fun d : Dev nD => mine d)) $$ [HI HR Hm]
  · isplitl [HI HR]
    · unfold records; isplitl [HI] <;> iassumption
    iexact Hm
  have hK : (bigSep Finset.univ fun d : Dev nD => iprop(records m K ∗ mine d) : sProp 𝕄) ⊢ bigSep Finset.univ (G' m) :=
    bigSep_mono fun d _ => by
      have h : iprop(records m K ∗ mine d) ⊢ G' m d := by unfold G'; iintro H; iexists K; iexact H
      exact h
  iapply hK $$ H

/-- All devices' invariants at once. -/
theorem glob : (bigSep Finset.univ fun d => iprop(Pipeline.ownSems0 (Ix := Unit) (Name := ℕ) (U := UU) (Lvl := ℕ) (Val := Elt F) (τ := τ) osem d
      ∗ unscopedSems0 d ∗ G m d) : sProp 𝕄)
    ⊢ |={Set.univ}=> bigSep Finset.univ (G' m) :=
  ((bigSep_mono fun d _ => alloc_one m d).trans (bigSep_fupd _ _)).trans (BI.fupd_mono (deal m))

/-! ## The credits at launch -/

section Credits

omit [FloatOps F]

theorem bar_ne_rcv (c e : Dev nD) (t : Tr) : barCell c ≠ rcvCell e t := fun h => rcv_ne_bar t (congrArg Prod.snd h).symm
theorem bar_eq {a b : Dev nD} : barCell a = barCell b ↔ a = b :=
  ⟨fun h => congrArg (fun g : GSem nD τ sig => g.1.1) h, fun h => h ▸ rfl⟩
theorem rcv_eq {a b : Dev nD} {s t : Tr} : rcvCell a s = rcvCell b t ↔ a = b ∧ s = t := by
  refine ⟨fun h => ⟨congrArg (fun g : GSem nD τ sig => g.1.1) h, ?_⟩, fun h => by rw [h.1, h.2]⟩
  have h2 : (SemLoc.dma (rcvS s) : SemLoc sig) = .dma (rcvS t) := congrArg Prod.snd h
  have h3 := asRcv_rcv s
  rw [h2, asRcv_rcv] at h3
  exact (Option.some.inj h3).symm

theorem dues_bar (d c : Dev nD) (l : List Tr) : dues d l (barCell c) () = 0 := by
  induction l with
  | nil => rfl
  | cons t l ih => rw [dues, Pi.add_apply, Finsupp.add_apply, ih, tallyAt_ne_cell (bar_ne_rcv _ _ _)]; rfl

theorem dues_off (d c : Dev nD) (t : Tr) (l : List Tr) (ht : t ∉ l) : dues d l (rcvCell c t) () = 0 := by
  induction l with
  | nil => rfl
  | cons s l ih =>
    rw [dues, Pi.add_apply, Finsupp.add_apply, ih fun h => ht (List.mem_cons_of_mem _ h), tallyAt_apply,
      if_neg (fun h : rcvCell c t = rcvCell (trD s d) s ∧ () = () => ht (by rw [(rcv_eq.mp h.1).2]; exact List.mem_cons_self))]

theorem dues_on (d c : Dev nD) (t : Tr) (l : List Tr) (hl : l.Nodup) (ht : t ∈ l) :
    dues d l (rcvCell c t) () = if d = trD t c then N else 0 := by
  induction l with
  | nil => exact absurd ht List.not_mem_nil
  | cons s l ih =>
    have hs := List.nodup_cons.mp hl
    rw [dues, Pi.add_apply, Finsupp.add_apply, tallyAt_apply]
    by_cases e : t = s
    · subst e
      rw [dues_off _ _ _ _ hs.1, Nat.zero_add]
      by_cases hd : d = trD t c
      · rw [if_pos hd, if_pos ⟨by rw [hd, trD_trD], rfl⟩]
      · have hn : ¬(rcvCell c t = rcvCell (trD t d) t ∧ () = ()) := fun h => hd (by rw [(rcv_eq.mp h.1).1, trD_trD])
        rw [if_neg hd, if_neg hn]
    · rw [ih hs.2 ((List.mem_cons.mp ht).resolve_left e), if_neg (fun h : rcvCell c t = rcvCell (trD s d) s ∧ () = () => e (rcv_eq.mp h.1).2), Nat.add_zero]

/-- What device `d` owes device `c`'s barrier, -/
theorem owed_bar (d c : Dev nD) : O₀ d (barCell c) ()
    = (if d = nb 2 c then 1 else 0) + (if d = nb 1 c then 1 else 0) + if d = nb 0 c then 1 else 0 := by
  have h : ∀ j : Fin 3, (tallyAt (barCell (nb j d)) () 1 : CellTallies nD τ sig Unit) (barCell c) () = if d = nb j c then 1 else 0 := fun j => by
    rw [tallyAt_apply]
    by_cases e : d = nb j c
    · rw [if_pos e, if_pos ⟨by rw [e, nb_nb], rfl⟩]
    · rw [if_neg e, if_neg fun h => e (by rw [bar_eq.mp h.1, nb_nb])]
  unfold O₀ O₁
  simp only [Pi.add_apply, Finsupp.add_apply]
  rw [dues_bar, h, h, h, Nat.zero_add]

/-- and its landings. -/
theorem owed_rcv (d c : Dev nD) (t : Tr) : O₀ d (rcvCell c t) () = if d = trD t c then N else 0 := by
  have h : ∀ e : Dev nD, (tallyAt (barCell e) () 1 : CellTallies nD τ sig Unit) (rcvCell c t) () = 0 := fun e => by
    rw [tallyAt_ne_cell (bar_ne_rcv _ _ _).symm]; rfl
  unfold O₀ O₁
  simp only [Pi.add_apply, Finsupp.add_apply]
  rw [dues_on _ _ _ _ (sends_perm.nodup_iff.mpr trs_nodup) (sends_perm.mem_iff.mpr (mem_trs t)), h, h, h]
  rfl

theorem launch_bar (c : Dev nD) :
    tallyOn (barCell c) (launchCredit (Pipeline.owing O₀) 0 (barCell c)) = (tallyAt (barCell c) () 3 : CellTallies nD τ sig Unit) := by
  have h : ∀ e : Dev nD, (∑ d : Dev nD, if d = e then 1 else 0) = 1 := fun e => by
    rw [Finset.sum_ite_eq' Finset.univ e fun _ => 1, if_pos (Finset.mem_univ _)]
  unfold tallyAt
  refine congrArg _ (Finsupp.ext fun u => ?_)
  cases u
  rw [Pipeline.launchCredit_owing, Finsupp.single_eq_same, Finset.sum_congr rfl fun d _ => owed_bar d c, Finset.sum_add_distrib,
    Finset.sum_add_distrib, h, h, h]

theorem launch_rcv (c : Dev nD) (t : Tr) :
    tallyOn (rcvCell c t) (launchCredit (Pipeline.owing O₀) 0 (rcvCell c t)) = (tallyAt (rcvCell c t) () N : CellTallies nD τ sig Unit) := by
  unfold tallyAt
  refine congrArg _ (Finsupp.ext fun u => ?_)
  cases u
  rw [Pipeline.launchCredit_owing, Finsupp.single_eq_same, Finset.sum_congr rfl fun d _ => owed_rcv d c t,
    Finset.sum_ite_eq' Finset.univ (trD t c) fun _ => N, if_pos (Finset.mem_univ _)]

/-- The semaphores whose credits are used. -/
def credSems : List (SemLoc sig) := .reg barS :: trs.map fun t => .dma (rcvS t)
theorem credSems_nodup : credSems.Nodup := by decide +kernel

theorem creds (d : Dev nD) : (Pipeline.launchCred O₀ d : sProp 𝕄)
    ⊢ iprop(cred (tallyAt (barCell d) () 3) ∗ bigSepL trs fun t => cred (tallyAt (rcvCell d t) () N)) := by
  unfold Pipeline.launchCred
  refine (bigSep_subset (Finset.subset_univ credSems.toFinset)).trans ?_
  rw [bigSep_eq_bigSepL credSems credSems_nodup, credSems, bigSepL_cons', bigSepL_map, launch_bar,
    chain_congr fun t _ => congrArg _ (launch_rcv d t)]
  exact Entails.refl _

end Credits

end Cert.Allsum

end
-- ==== Proof.Run.lean ====
/-
# The run

A device's body from the launch's resources to the results: the buffers are split into the blocks the copies move, the text is
run, the cells are closed and the buffers put together again. Then the launch: every execution of all devices ends, with the
sum of the two blocks in every device's result.
-/
module

public import proofs.«01_k».proof.Proof.Fund
public import Idealize.ShloMosaic.Lib.Pipeline.Launch
public import Idealize.ShloMosaic.Lib.Pipeline.CollectiveSegs

@[expose] public section

noncomputable section

namespace Cert.Allsum

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Transfers
open Idealize.ShloMosaic.Pipeline (BodyObligation)

variable {F : FTy → Type} [FloatOps F]

local notation "𝕄" => MT nD τ sig Unit (Elt F) ℕ UU ℕ

variable (m : (ℓ : Loc nD τ sig) → Buf (Elt F) ℓ) (ρ : Dev nD → PrngReg) (d : Dev nD)

/-! ## A device's assertions -/

/-- A device's three arrays as the launch finds them. -/
def arrays : sProp 𝕄 :=
  iprop((arr d main_arg0 ↦{fullShare} m (arr d main_arg0)) ∗ (arr d main_v1_0 ↦{fullShare} m (arr d main_v1_0))
    ∗ (arr d main_v1_1 ↦{fullShare} m (arr d main_v1_1)))

/-- Its two scratch buffers, at any contents. -/
def scratch : sProp 𝕄 :=
  iprop((∃ f, arr d cc0_scratch0 ↦{fullShare} f) ∗ (∃ f, arr d cc0_scratch1 ↦{fullShare} f))

/-- The credits it starts with. -/
def credit : sProp 𝕄 := iprop(cred (tallyAt (barCell d) () 3) ∗ bigSepL trs fun t => cred (tallyAt (rcvCell d t) () N))

/-- What it starts with, -/
def start : sProp 𝕄 := iprop((∃ K, ctx m K ∗ mine d) ∗ credit d ∗ arrays m d)

/-- and what it ends with: its result, half of its operand unchanged, and the barrier's semaphore at rest. -/
def finish : sProp 𝕄 :=
  iprop(unscopedSems0 d ∗ (arr d main_arg0 ↦{fullShare.left} xin m d) ∗ (arr d main_v1_0 ↦{fullShare} res m d))

def Φ₀ : sProp 𝕄 := iprop(start m d ∗ scratch d)
def Φ₁ : sProp 𝕄 :=
  iprop(finish m d ∗ Pipeline.ownSems0 (Ix := Unit) (Name := ℕ) (U := UU) (Lvl := ℕ) (Val := Elt F) (τ := τ) osem d ∗ scratch d)

/-! ## From the launch's assertions to the text's -/

section Shapes

omit [FloatOps F]

theorem quiet_eq : (quiet d : sProp 𝕄) = iprop((idle (F := F) d (ldS 0) ∗ idle (F := F) d (ldS 1) ∗ idle (F := F) d (ldS 2) ∗ idle (F := F) d (ldS 3))
    ∗ idle (F := F) d (stS 0) ∗ idle (F := F) d (stS 1)) := by
  unfold quiet
  rw [bigSep_univ_eq_bigSepL [0, 1, 2, 3] (by decide) (by decide), bigSep_univ_eq_bigSepL [0, 1] (by decide) (by decide)]
  rfl

theorem poss_eq : (poss d : sProp 𝕄) = iprop(atPos ER (barCell d) 0 ∅ 0 ∗ bigSepL trs (fun t => atPos ER (sndCell d t) 0 ∅ 0)
    ∗ bigSepL trs fun t => atPos ER (rcvCell d t) 0 ∅ 0) := by
  unfold poss
  rw [cis_all]; rfl

theorem payToks_eq : (payToks d : sProp 𝕄)
    = iprop((dutyTok ER (barCell (nb 0 d)) 0 0 ∗ dutyTok ER (barCell (nb 1 d)) 0 1 ∗ dutyTok ER (barCell (nb 2 d)) 0 2)
      ∗ bigSepL trs (fun t => dutyTok ER (sndCell d t) 0 0) ∗ bigSepL trs fun t => dutyTok ER (rcvCell (trD t d) t) 0 0) := by
  unfold payToks
  rw [dirs_all, trs_all, trs_all]

end Shapes

/-- The two slots at rest are the scratch buffers and the local copies' semaphores. -/
theorem free_take : iprop(scratch d ∗ quiet d) ⊢ (iprop(Free (F := F) d 0 ∗ Free (F := F) d 1) : sProp 𝕄) := by
  rw [quiet_eq]
  unfold scratch Free
  iintro ⟨⟨Ha, Hb⟩, ⟨H0, H1, H2, H3⟩, H4, H5⟩
  ihave Ha := (a_split (F := F) d) $$ Ha
  icases Ha with ⟨Ha0, Ha1⟩
  ihave Hb := (b_split (F := F) d) $$ Hb
  icases Hb with ⟨Hb0, Hb1⟩
  isplitl [Ha0 Hb0 H0 H2 H4]
  · isplitl [Ha0]; · iexact Ha0
    isplitl [Hb0]; · iexact Hb0
    isplitl [H0]; · iexact H0
    isplitl [H2]; · iexact H2
    iexact H4
  isplitl [Ha1]; · iexact Ha1
  isplitl [Hb1]; · iexact Hb1
  isplitl [H1]; · iexact H1
  isplitl [H3]; · iexact H3
  iexact H5

theorem free_give : (iprop(Free (F := F) d 0 ∗ Free (F := F) d 1) : sProp 𝕄) ⊢ iprop(scratch d ∗ quiet d) := by
  rw [quiet_eq]
  unfold scratch Free
  iintro ⟨⟨Ha0, Hb0, H0, H2, H4⟩, Ha1, Hb1, H1, H3, H5⟩
  ihave Ha := (a_join (F := F) d) $$ [Ha0 Ha1]
  · isplitl [Ha0] <;> iassumption
  ihave Hb := (b_join (F := F) d) $$ [Hb0 Hb1]
  · isplitl [Hb0] <;> iassumption
  isplitl [Ha Hb]
  · isplitl [Ha] <;> iassumption
  isplitl [H0 H1 H2 H3]
  · isplitl [H0]; · iexact H0
    isplitl [H1]; · iexact H1
    isplitl [H2]; · iexact H2
    iexact H3
  isplitl [H4]; · iexact H4
  iexact H5

theorem x_take : (arr d main_arg0 ↦{fullShare} m (arr d main_arg0) : sProp 𝕄)
    ⊢ iprop((arr d main_arg0 ↦{fullShare.left} xin m d) ∗ bigSepL (List.range 64) (fun i => iprop(∃ q, held (rows xM (ic i d)) d q (xin m d)))
      ∗ bigSepL ((List.range 22).map trY) fun t => iprop(∃ q, held (rows xM (sc t d)) d q (xin m d))) :=
  x_split d (xin m d)

theorem text_take : iprop(mine d ∗ credit d ∗ arrays m d ∗ scratch d)
    ⊢ (iprop(textPre m d ∗ (arr d main_arg0 ↦{fullShare.left} xin m d)) : sProp 𝕄) := by
  unfold mine credit arrays textPre openRes runRes
  rw [poss_eq, payToks_eq, ← src_y m d, chain_sep, chain_sep]
  iintro ⟨⟨⟨Hpb, Hps, Hpr⟩, ⟨Hb, Hts, Htr⟩, Hq⟩, ⟨Hcb, Hcr⟩, ⟨Hx, Ho, Hr⟩, Hs⟩
  ihave Hx := (x_take m d) $$ Hx
  icases Hx with ⟨Hx, Hxs, Hxy⟩
  ihave Ho := (o_split d (m (arr d main_v1_0))) $$ Ho
  ihave Hr := (r_split d (m (arr d main_v1_1))) $$ Hr
  ihave Hf := (free_take d) $$ [Hs Hq]
  · isplitl [Hs] <;> iassumption
  isplitr [Hx]
  · isplitl [Hb Hpb Hcb Hr]
    · isplitl [Hb]; · iexact Hb
      isplitl [Hpb Hcb]
      · isplitl [Hpb] <;> iassumption
      iexact Hr
    isplitl [Hts Htr Hpr Hcr Hxy Hxs Ho]
    · isplitl [Hts Htr]; · isplitl [Hts] <;> iassumption
      isplitl [Hpr Hcr]; · isplitl [Hpr] <;> iassumption
      isplitl [Hxy]; · iexact Hxy
      isplitl [Hxs]; · iexact Hxs
      iexact Ho
    isplitl [Hf]; · iexact Hf
    iexact Hps
  iexact Hx

/-! ## Closing the cells -/

variable (K : Dev nD × CI → ℕ)

/-- A cell past its one round is closed, its counter at rest. -/
theorem close_one (k : CI) : iprop(records m K ∗ atPos ER (kcell (d, k)) (0 + 1) ∅ 0) ⊢ (|={Set.univ}=> semVal (kcell (d, k)) 0 : sProp 𝕄) := by
  iintro ⟨#Hr, Ha⟩
  iapply (Rounds.cell_close ER (sched m) (κ := K (d, k)) (Set.mem_univ _) (fun h => h) (R := 0 + 1) (duties_later m (kcell (d, k))))
  isplitr
  · iapply (inv_at m K (d, k)) $$ Hr
  iexact Ha

theorem close_list (k : Tr → CI) : ∀ l : List Tr, iprop(records m K ∗ bigSepL l fun t => atPos ER (kcell (d, k t)) (0 + 1) ∅ 0)
    ⊢ (|={Set.univ}=> bigSepL l fun t => semVal (kcell (d, k t)) 0 : sProp 𝕄)
  | [] => by
    have h : iprop(records m K ∗ bigSepL [] fun t => atPos ER (kcell (d, k t)) (0 + 1) ∅ 0)
        ⊢ (|={Set.univ}=> bigSepL [] fun t => semVal (kcell (d, k t)) 0 : sProp 𝕄) := by
      rw [bigSepL_nil, bigSepL_nil]
      iintro -; imodintro; iempintro
    exact h
  | t :: l => by
    have ih := close_list k l
    rw [bigSepL_cons', bigSepL_cons']
    iintro ⟨#Hr, Ha, Hl⟩
    imod (close_one m d K (k t)) $$ [Ha] with Ha
    · isplitr; · iexact Hr
      iexact Ha
    imod ih $$ [Hl] with Hl
    · isplitr; · iexact Hr
      iexact Hl
    imodintro
    isplitl [Ha] <;> iassumption

theorem text_give : iprop(records m K ∗ textPost m d ∗ (arr d main_arg0 ↦{fullShare.left} xin m d)) ⊢ (|={Set.univ}=> Φ₁ m d : sProp 𝕄) := by
  unfold textPost Φ₁ finish
  rw [ownSems0_eq, unscopedSems0_eq, o_join]
  iintro ⟨#Hr, ⟨Hb, Hrc, Hsn, Hf, Ho⟩, Hx⟩
  imod (close_one m d K none) $$ [Hb] with Hb
  · isplitr; · iexact Hr
    iexact Hb
  imod (close_list m d K (fun t => some (.inl t)) trs) $$ [Hsn] with Hsn
  · isplitr; · iexact Hr
    iexact Hsn
  imod (close_list m d K (fun t => some (.inr t)) trs) $$ [Hrc] with Hrc
  · isplitr; · iexact Hr
    iexact Hrc
  ihave Hf := (free_give d) $$ Hf
  icases Hf with ⟨Hs, Hq⟩
  imodintro
  isplitl [Hb Hx Ho]
  · isplitl [Hb]; · iexact Hb
    isplitl [Hx]; · iexact Hx
    iexact Ho
  isplitr [Hs]
  · isplitr [Hq]
    · isplitl [Hsn]; · iexact Hsn
      iexact Hrc
    iexact Hq
  iexact Hs

/-! ## The body -/

/-- The printed body, from start to finish. -/
theorem body_run : iprop(Φ₀ m d ∗ owing d (O₀ d))
    ⊢ wp frame (wpE (defs₀ (F := F)) 𝒱₀ (d : Thread nD τ) none) Set.univ
        (cc0_body (F := F) xM (Memref.isWhole_whole _) oM (Memref.isWhole_whole _) rM (Memref.isWhole_whole _)
          aM (Memref.isWhole_whole _) bM (Memref.isWhole_whole _) cc0_scratch2 cc0_scratch3 cc0_scratch4 cc0_scratch5 cc0_scratch6
          cc0_scratch7 cc0_scratch8 cc0_scratch9) fun _ => (iprop(Φ₁ m d ∗ owing d 0) : sProp 𝕄) := by
  rw [body_eq, wp_deviceId]
  unfold Φ₀ start
  iintro ⟨⟨⟨⟨%K, #Hc, Hm⟩, Hcr, Ha⟩, Hs⟩, HO⟩
  ihave H := (text_take m d) $$ [Hm Hcr Ha Hs]
  · isplitl [Hm]; · iexact Hm
    isplitl [Hcr]; · iexact Hcr
    isplitl [Ha] <;> iassumption
  icases H with ⟨Ht, Hx⟩
  iapply (wp_fupd _ _)
  iapply (wp_text m K d _)
  isplitr; · iexact Hc
  isplitl [HO]; · iexact HO
  isplitl [Ht]; · iexact Ht
  iintro ⟨HO, Ht⟩
  unfold ctx
  icases Hc with ⟨#Hr, -⟩
  imod (text_give m d K) $$ [Ht Hx] with H
  · isplitr; · iexact Hr
    isplitl [Ht] <;> iassumption
  imodintro
  isplitl [H] <;> iassumption

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 100000 in
theorem body_obligation (c : Dev nD) : BodyObligation (dats (F := F) m 0 c) (defs₀ (F := F)) 𝒱₀ () Set.univ := fun t => by
  rw [fin_N0 t]
  have hE : ∀ Ψ : Fin cfg0.W → sProp 𝕄, bigSep Finset.univ Ψ = iprop(emp) := fun Ψ => bigSep_univ_eq_bigSepL [] (by decide) (by decide) Ψ
  rw [hE, hE]
  show iprop(Φ₀ m c ∗ (dats m 0 c).owesAt () t0_0.castSucc ∗ emp) ⊢ wp frame (wpE (defs₀ (F := F)) 𝒱₀ (c : Thread nD τ) none) Set.univ
        (cc0_body (F := F) xM (Memref.isWhole_whole _) oM (Memref.isWhole_whole _) rM (Memref.isWhole_whole _)
          aM (Memref.isWhole_whole _) bM (Memref.isWhole_whole _) cc0_scratch2 cc0_scratch3 cc0_scratch4 cc0_scratch5 cc0_scratch6
          cc0_scratch7 cc0_scratch8 cc0_scratch9) fun _ => iprop(Φ₁ m c ∗ (dats m 0 c).owesAt () t0_0.succ ∗ emp)
  have h0 : (dats m 0 c).owesAt () t0_0.castSucc ⊢ (owing c (O₀ c) : sProp 𝕄) := by
    unfold Pipeline.Dat.owesAt Pipeline.owesWithin owing
    iintro ⟨%W, -, H⟩; iexists W; iexact H
  have h1 : (owing c 0 : sProp 𝕄) ⊢ (dats m 0 c).owesAt () t0_0.succ := by
    unfold Pipeline.Dat.owesAt Pipeline.owesWithin owing
    iintro ⟨%W, H⟩; iexists W
    isplitr; · ipureintro; exact fun _ _ => Or.inl trivial
    iexact H
  have hp : (iprop(Φ₁ m c ∗ owing c 0) : sProp 𝕄) ⊢ iprop(Φ₁ m c ∗ (dats m 0 c).owesAt () t0_0.succ ∗ emp) := by
    iintro ⟨H, HO⟩
    isplitl [H]; · iexact H
    isplitl [HO]; · iapply h1 $$ HO
    iempintro
  have hb : iprop(Φ₀ m c ∗ (dats m 0 c).owesAt () t0_0.castSucc ∗ emp) ⊢ (iprop(Φ₀ m c ∗ owing c (O₀ c)) : sProp 𝕄) := by
    iintro ⟨H, HO, -⟩
    isplitl [H]; · iexact H
    iapply h0 $$ HO
  exact (hb.trans (body_run m c)).trans (wp_mono _ _ _ fun _ => hp)

/-! ## The launch -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  rw [Pipeline.unscopedRestP_none, unscopedRest0_eq]
  unfold start G' arrays credit ctx
  iintro ⟨Ha, #Hl, Hc, -, ⟨%K, #Hr, Hm⟩⟩
  ihave Hc := (creds (F := F) c) $$ Hc
  imodintro
  isplitl
  · isplitl [Hm]
    · iexists K
      isplitr
      · isplitr; · iexact Hr
        iexact Hl
      iexact Hm
    isplitl [Hc]; · iexact Hc
    iexact Ha
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq]
  exact Entails.refl _

theorem waits (c : Dev nD) : (levAts L lv : sProp 𝕄) ⊢ Pipeline.cellsWaits cfgs (dats m) () 0 c :=
  Pipeline.cellsWaits_intro cfgs (dats m) () 0 c fun w _ _ => w.elim0

/-- What a device's final memory says. -/
def Final (c : Dev nD) (s : MemSt nD τ sig (Elt F)) : Prop :=
  (s.mem (arr c main_v1_0) = res m c ∧ s.mem (arr c main_arg0) = m (arr c main_arg0))
    ∧ ∀ sm : SemLoc sig, sm.isScoped .tc = false → s.sem ((c.tc : Thread nD τ), sm) = 0

theorem finish_read (c : Dev nD) (s' : Phys nD τ sig (Elt F)) :
    iprop(finish m c ∗ emp ∗ SI s') ⊢ |={Set.univ}=> (iprop(⌜Final m c s'.mem⌝ ∗ SI s') : sProp 𝕄) := by
  unfold finish
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ ho, Buf.eq_of_forall_mem_univ hx⟩, hs⟩
  iexact HSI

theorem fund_pair : BI.own ((embR : Emb _ _) (initOf protoCells protoToks, (1 : Counters))) ⊢ (|==> bigSep Finset.univ (G m) : sProp 𝕄) := by
  have h : ∀ P Q : sProp 𝕄, iprop(P ∗ Q) ⊢ P := fun _ _ => by iintro ⟨H, -⟩; iexact H
  exact ((own_pair_emb _ _ _).trans (h _ _)).trans (fund_all m)

set_option maxRecDepth 100000 in
/-- Every execution of all devices ends, each device's result at its sum of two blocks, its operand unchanged, and no semaphore
    left counting. -/
theorem run_main : θ_run defs (onTc (τ := τ) (main (F := F))) (s₀ m ρ) (fun r =>
    (∀ c : Dev nD, r.2.mem (arr c main_v1_0) = res m c ∧ r.2.mem (arr c main_arg0) = m (arr c main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_pair m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := phi0_intro m) (hout := phi1_exit m)
    (QY := Final m) (hY := finish_read m)
    (hQ := fun _ h hs => ⟨fun c => (h c).2.2.1, sem_eq_zero hs fun c => (h c).2.2.2⟩)

end Cert.Allsum

end
-- ==== Proof.Value.lean ====
/-
# The value

Over the extended reals the kernel's result is the reference's: each device adds its own block of the operand and the other block,
the reference adds the two blocks to zero, and addition is commutative.
-/
module

public import proofs.«01_k».proof.Proof.Data
public import proofs.«01_k».proof.Proof.Gen.ReferenceIdeal
public import Idealize.ShloMosaic.Lib.Layout
public import Idealize.ShloMosaic.Lib.IdealHost
public import Idealize.ShloMosaic.Lib.Pipeline.Value
public import Idealize.ShloMosaic.Lib.Pointwise.Reduce
public import Idealize.ShloMosaic.PureOps.Ideal.Laws

@[expose] public section

noncomputable section

namespace Cert.Allsum

open Idealize.ShloMosaic Idealize.ShloMosaic.TcCoe

/-- The whole operand's and the result's shapes. -/
abbrev SW : Shape := ⟨2, ![32768, 1024]⟩
abbrev SR : Shape := ⟨2, ![16384, 1024]⟩

/-- Element `j` of block `y` in the whole operand. -/
def inBlock (y : Fin 2) (j : SR.Idx) : SW.Idx :=
  ix2 ⟨y.val * 16384 + (j (0 : Fin 2)).val, by
    have h : (j (0 : Fin 2)).val < 16384 := (j (0 : Fin 2)).isLt
    have := y.isLt
    omega⟩ ⟨(j (1 : Fin 2)).val, (j (1 : Fin 2)).isLt⟩

/-- The sum of the operand's two blocks. -/
def total (X : SW.Idx → EReal) : SR.Idx → EReal := fun j => X (inBlock 0 j) + X (inBlock 1 j)

/-! ## The reference -/

/-- The reference at an element: the two blocks' elements. -/
theorem reference_total (X : SW.Idx → EReal) :
    Host.reduceAdd (F := Ideal) (φ := .f32) (shapeCast Cert.ReferenceIdeal.S2x16384x1024 X Cert.ReferenceIdeal.Gen.shapeCasts_S32768x1024_S2x16384x1024)
      (constant Cert.ReferenceIdeal.S_ .f32 0x00000000#32) Cert.ReferenceIdeal.Gen.reducesTo_S2x16384x1024_S16384x1024_d0 Cert.ReferenceIdeal.Gen.h_S_
      = total X := by
  funext j
  have hj : (j (0 : Fin 2)).val < 16384 := (j (0 : Fin 2)).isLt
  have hr : ∀ (k : Fin 2) (a : Fin 16384) (b : Fin 1024), a.val = (j (0 : Fin 2)).val → b.val = (j (1 : Fin 2)).val →
      shapeCast Cert.ReferenceIdeal.S2x16384x1024 X Cert.ReferenceIdeal.Gen.shapeCasts_S32768x1024_S2x16384x1024 (ix3 k a b) = X (inBlock k j) := by
    intro k a b ha hb
    refine shapeCast_apply X _ _ _ ?_
    rw [Shape.rowMajor_val_two, Shape.rowMajor_val_three]
    show (k.val * 16384 + (j (0 : Fin 2)).val) * 1024 + (j (1 : Fin 2)).val = (k.val * 16384 + a.val) * 1024 + b.val
    rw [ha, hb]
  rw [Host.reduceAdd_apply, Ideal.hostReduceAdd_def, Ideal.hostReduceAdd_r3_a0, Fin.sum_univ_two]
  refine (congrArg₂ (fun a b : EReal => Ideal.ofBits .f32 0x00000000#32 + (a + b)) (hr 0 _ _ ?_ ?_) (hr 1 _ _ ?_ ?_)).trans ?_
  iterate 4 rfl
  show Ideal.ofBits .f32 0x00000000#32 + (X (inBlock 0 j) + X (inBlock 1 j)) = _
  rw [Ideal.ofBits_zero_f32, zero_add]
  rfl

/-! ## The kernel -/

open Cert.KernelIdeal

variable (m : (ℓ : Loc nD τ sig) → Buf (Elt Ideal) ℓ) (X : SW.Idx → EReal)

/-- The block a device holds is its position's on the y axis. -/
theorem block_at (c : Dev nD) (h : Layout.TilesN SR SW fun b => Layout.cutSize [2, 2, 4] ((![[1], []] : Fin 2 → List ℕ) b)) (j : SR.Idx) :
    Layout.blockN SR SW (Layout.meshBlock [2, 2, 4] ![[1], []] c) X h j = X (inBlock ⟨c.val / 4 % 2, Nat.mod_lt _ (by decide)⟩ j) := by
  rw [Layout.blockN_apply]
  refine congrArg X (funext fun b => Fin.ext ?_)
  match b with
  | ⟨0, _⟩ =>
    show (c.val / 4 % 2 * 1 + 0) * 16384 + (j (0 : Fin 2)).val = c.val / 4 % 2 * 16384 + (j (0 : Fin 2)).val
    omega
  | ⟨1, _⟩ =>
    show 0 * 1024 + (j (1 : Fin 2)).val = (j (1 : Fin 2)).val
    omega

/-- Every device's result is the sum of the two blocks. -/
theorem res_total (hm : ∀ (d : Dev nD) (j : SR.Idx), xin m d j = X (inBlock ⟨d.val / 4 % 2, Nat.mod_lt _ (by decide)⟩ j)) (c : Dev nD) :
    res m c = total X := by
  funext j
  have ho := origin_block c (chunkOf j)
  show (xin m c j : EReal) + xin m (origin c (chunkOf j)) j = X (inBlock 0 j) + X (inBlock 1 j)
  rw [hm, hm]
  have hc : c.val / 4 % 2 < 2 := Nat.mod_lt _ (by decide)
  rcases (show c.val / 4 % 2 = 0 ∨ c.val / 4 % 2 = 1 by omega) with h | h
  · rw [show (⟨c.val / 4 % 2, Nat.mod_lt _ (by decide)⟩ : Fin 2) = 0 from Fin.ext h,
      show (⟨(origin c (chunkOf j)).val / 4 % 2, Nat.mod_lt _ (by decide)⟩ : Fin 2) = 1 from Fin.ext (ho.trans (by rw [h]; rfl))]
  · rw [show (⟨c.val / 4 % 2, Nat.mod_lt _ (by decide)⟩ : Fin 2) = 1 from Fin.ext h,
      show (⟨(origin c (chunkOf j)).val / 4 % 2, Nat.mod_lt _ (by decide)⟩ : Fin 2) = 0 from Fin.ext (ho.trans (by rw [h]; rfl))]
    exact add_comm _ _

end Cert.Allsum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as compiled runs: its text is the idealised kernel's, at the machine's floats. -/
theorem frame_kernel : Cert.quiescent_Kernel := fun m ρ _ =>
  (θ_run Cert.KernelIdeal.defs _ _).mono (fun _ h => ⟨fun c => (h.1 c).2, h.2⟩) (Cert.Allsum.run_main (F := Bits) m ρ)

theorem frame_ideal : Cert.quiescent_KernelIdeal := fun m ρ _ =>
  (θ_run Cert.KernelIdeal.defs _ _).mono (fun _ h => ⟨fun c => (h.1 c).2, h.2⟩) (Cert.Allsum.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem value : Cert.algebraic_KernelIdeal_ReferenceIdeal := fun m ρ m' ρ' _ hx =>
  ⟨Cert.Allsum.total (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.Allsum.res_total m _
        (fun d j => (congrFun (hx d) j).trans (Cert.Allsum.block_at _ d _ j)) c), (h.1 c).2⟩)
      (Cert.Allsum.run_main (F := Ideal) m ρ),
    (θ_run Cert.ReferenceIdeal.defs _ _).mono
      (fun _ h => ⟨(h 0).1.trans (Cert.Allsum.reference_total _), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
